-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x256 : Shape := ⟨2, ![10000, 256]⟩
abbrev S2x160000 : Shape := ⟨2, ![2, 160000]⟩
abbrev S512x1 : Shape := ⟨2, ![512, 1]⟩
abbrev S1 : Shape := ⟨1, ![1]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel

variable [Facts]

def fn {F : FTy → Type} [FloatOps F] (main_arg0 : FVec F S10000x256 .f32) (main_arg1 : IVec S2x160000 32) (main_arg2 : FVec F S512x1 .f32) (main_arg3 : FVec F S1 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  main_v5
-- ==== Kernel.lean ====
abbrev S10000x256 : Shape := ⟨2, ![10000, 256]⟩
abbrev S2x160000 : Shape := ⟨2, ![2, 160000]⟩
abbrev S512x1 : Shape := ⟨2, ![512, 1]⟩
abbrev S1 : Shape := ⟨1, ![1]⟩
abbrev S2x256 : Shape := ⟨2, ![2, 256]⟩
abbrev S1x1 : Shape := ⟨2, ![1, 1]⟩
abbrev S2x10000 : Shape := ⟨2, ![2, 10000]⟩
abbrev S320000 : Shape := ⟨1, ![320000]⟩
abbrev S160000 : Shape := ⟨1, ![160000]⟩
abbrev S10000 : Shape := ⟨1, ![10000]⟩
abbrev S5008 : Shape := ⟨1, ![5008]⟩
abbrev S_ : Shape := ⟨0, ![]⟩
abbrev S1x10000 : Shape := ⟨2, ![1, 10000]⟩
abbrev S5000 : Shape := ⟨1, ![5000]⟩
abbrev S16 : Shape := ⟨1, ![16]⟩

abbrev nBuf : Table → Nat
  | .hbm => 9
  | .local .tc .vmem => 4
  | .local .scVector .vmem => 5
  | _ => 0

abbrev bufTy : (tb : Table) → Fin (nBuf tb) → BufTy
  | .hbm, ⟨0, _⟩ => ⟨S10000x256, .f32⟩
  | .hbm, ⟨1, _⟩ => ⟨S2x160000, .i32⟩
  | .hbm, ⟨2, _⟩ => ⟨S512x1, .f32⟩
  | .hbm, ⟨3, _⟩ => ⟨S1, .f32⟩
  | .hbm, ⟨4, _⟩ => ⟨S2x256, .f32⟩
  | .hbm, ⟨5, _⟩ => ⟨S1x1, .f32⟩
  | .hbm, ⟨6, _⟩ => ⟨S2x10000, .f32⟩
  | .hbm, ⟨7, _⟩ => ⟨S320000, .i32⟩
  | .hbm, ⟨8, _⟩ => ⟨S160000, .f32⟩
  | .local .tc .vmem, ⟨0, _⟩ => ⟨S10000x256, .f32⟩
  | .local .tc .vmem, ⟨1, _⟩ => ⟨S2x256, .f32⟩
  | .local .tc .vmem, ⟨2, _⟩ => ⟨S1x1, .f32⟩
  | .local .tc .vmem, ⟨3, _⟩ => ⟨S2x10000, .f32⟩
  | .local .scVector .vmem, ⟨0, _⟩ => ⟨S10000, .f32⟩
  | .local .scVector .vmem, ⟨1, _⟩ => ⟨S10000, .f32⟩
  | .local .scVector .vmem, ⟨2, _⟩ => ⟨S5008, .i32⟩
  | .local .scVector .vmem, ⟨3, _⟩ => ⟨S5008, .i32⟩
  | .local .scVector .vmem, ⟨4, _⟩ => ⟨S5008, .f32⟩
  | _, _ => ⟨S10000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![v2.toNat]
def k1_off2 (i : grid1.Coords) : Fin 1 → Nat :=
  let c160000_i32 : BitVec 32 := 160000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  let v3 : BitVec 32 := Scalar.addi c160000_i32 v2
  ![v3.toNat]
@[reducible] def k1_t1_loop : Scf.Loop 32 :=
  let c0_i32_1 : BitVec 32 := 0#32
  let c313_i32 : BitVec 32 := 313#32
  let v4 : BitVec 32 := Scalar.addi c0_i32_1 c313_i32
  let c1_i32_2 : BitVec 32 := 1#32
  ⟨c0_i32_1, v4, c1_i32_2⟩
def k1_mult1 (k1_t1 : Fin k1_t1_loop.trips) : BitVec 32 :=
  let c0_i32_1 : BitVec 32 := 0#32
  let c1_i32_2 : BitVec 32 := 1#32
  let arg10 : BitVec 32 := Scf.iv c0_i32_1 c1_i32_2 k1_t1
  let c16_i32 : BitVec 32 := 16#32
  let v5 : BitVec 32 := Scalar.muli arg10 c16_i32
  v5
def k1_off3 (k1_t1 : Fin k1_t1_loop.trips) : Fin 1 → Nat :=
  let c0_i32_1 : BitVec 32 := 0#32
  let c1_i32_2 : BitVec 32 := 1#32
  let arg10 : BitVec 32 := Scf.iv c0_i32_1 c1_i32_2 k1_t1
  let c16_i32 : BitVec 32 := 16#32
  let v5 : BitVec 32 := Scalar.muli arg10 c16_i32
  let v6 : BitVec 32 := v5
  let v7 : Index := Scalar.indexCast v6
  ![v7.toNat]

def k1_chk1 (v12 : IVec S16 32) : Prop :=
  (∀ a x, ((![v12] : Fin 1 → IVec S16 32) a x).toNat < S10000.size a)
theorem k1_idx1_inb : ∀ (v12 : IVec S16 32) (k1_hw1 : k1_chk1 v12), ∀ a x, ((![v12] : Fin 1 → IVec S16 32) a x).toNat < S10000.size a := fun v12 k1_hw1 => k1_hw1

def k1_chk2 (v18 : IVec S16 32) : Prop :=
  (∀ a x, ((![v18] : Fin 1 → IVec S16 32) a x).toNat < S10000.size a)
theorem k1_idx2_inb : ∀ (v18 : IVec S16 32) (k1_hw2 : k1_chk2 v18), ∀ a x, ((![v18] : Fin 1 → IVec S16 32) a x).toNat < S10000.size a := fun v18 k1_hw2 => k1_hw2
def k1_off4 (k1_t1 : Fin k1_t1_loop.trips) : Fin 1 → Nat :=
  let c0_i32_1 : BitVec 32 := 0#32
  let c1_i32_2 : BitVec 32 := 1#32
  let arg10 : BitVec 32 := Scf.iv c0_i32_1 c1_i32_2 k1_t1
  let c16_i32 : BitVec 32 := 16#32
  let v5 : BitVec 32 := Scalar.muli arg10 c16_i32
  let v6 : BitVec 32 := v5
  let v29 : Index := Scalar.indexCast v6
  ![v29.toNat]
def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1x1 : Shape := ⟨2, ![1, 1]⟩
abbrev S160000x256 : Shape := ⟨2, ![160000, 256]⟩
abbrev S160000x512 : Shape := ⟨2, ![160000, 512]⟩

abbrev nBuf : Space → Nat
  | .hbm => 68
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S512x1, .f32⟩
  | .hbm, ⟨3, _⟩ => ⟨S1, .f32⟩
  | .hbm, ⟨4, _⟩ => ⟨S1x160000, .i32⟩
  | .hbm, ⟨5, _⟩ => ⟨S160000, .i32⟩
  | .hbm, ⟨6, _⟩ => ⟨S1x160000, .i32⟩
  | .hbm, ⟨7, _⟩ => ⟨S160000, .i32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S1, .i32⟩
  | .hbm, ⟨17, _⟩ => ⟨S_, .i32⟩
  | .hbm, ⟨18, _⟩ => ⟨S160000x1, .i32⟩
  | .hbm, ⟨19, _⟩ => ⟨S160000x1, .i1⟩
  | .hbm, ⟨20, _⟩ => ⟨S1x1, .i32⟩
  | .hbm, ⟨21, _⟩ => ⟨S160000x1, .i32⟩
  | .hbm, ⟨22, _⟩ => ⟨S160000x1, .i1⟩
  | .hbm, ⟨23, _⟩ => ⟨S160000x1, .i1⟩
  | .hbm, ⟨24, _⟩ => ⟨S_, .i1⟩
  | .hbm, ⟨25, _⟩ => ⟨S160000, .i1⟩
  | .hbm, ⟨26, _⟩ => ⟨S160000x256, .f32⟩
  | .hbm, ⟨27, _⟩ => ⟨S160000x256, .i1⟩
  | .hbm, ⟨28, _⟩ => ⟨S_, .f32⟩
  | .hbm, ⟨29, _⟩ => ⟨S160000x256, .f32⟩
  | .hbm, ⟨30, _⟩ => ⟨S160000x256, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S1, .i32⟩
  | .hbm, ⟨40, _⟩ => ⟨S_, .i32⟩
  | .hbm, ⟨41, _⟩ => ⟨S160000x1, .i32⟩
  | .hbm, ⟨42, _⟩ => ⟨S160000x1, .i1⟩
  | .hbm, ⟨43, _⟩ => ⟨S1x1, .i32⟩
  | .hbm, ⟨44, _⟩ => ⟨S160000x1, .i32⟩
  | .hbm, ⟨45, _⟩ => ⟨S160000x1, .i1⟩
  | .hbm, ⟨46, _⟩ => ⟨S160000x1, .i1⟩
  | .hbm, ⟨47, _⟩ => ⟨S_, .i1⟩
  | .hbm, ⟨48, _⟩ => ⟨S160000, .i1⟩
  | .hbm, ⟨49, _⟩ => ⟨S160000x256, .f32⟩
  | .hbm, ⟨50, _⟩ => ⟨S160000x256, .i1⟩
  | .hbm, ⟨51, _⟩ => ⟨S_, .f32⟩
  | .hbm, ⟨52, _⟩ => ⟨S160000x256, .f32⟩
  | .hbm, ⟨53, _⟩ => ⟨S160000x256, .f32⟩
  | .hbm, ⟨54, _⟩ => ⟨S160000x512, .f32⟩
  | .hbm, ⟨55, _⟩ => ⟨S160000x1, .f32⟩
  | .hbm, ⟨56, _⟩ => ⟨S1x1, .f32⟩
  | .hbm, ⟨57, _⟩ => ⟨S160000x1, .f32⟩
  | .hbm, ⟨58, _⟩ => ⟨S160000x1, .f32⟩
  | .hbm, ⟨59, _⟩ => ⟨S160000x1, .f32⟩
  | .hbm, ⟨60, _⟩ => ⟨S160000x1, .f32⟩
  | .hbm, ⟨61, _⟩ => ⟨S_, .f32⟩
  | .hbm, ⟨62, _⟩ => ⟨S160000x1, .f32⟩
  | .hbm, ⟨63, _⟩ => ⟨S160000x1, .f32⟩
  | .hbm, ⟨64, _⟩ => ⟨S_, .f32⟩
  | .hbm, ⟨65, _⟩ => ⟨S160000x1, .f32⟩
  | .hbm, ⟨66, _⟩ => ⟨S160000x1, .f32⟩
  | .hbm, ⟨67, _⟩ => ⟨S160000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst : Ref sig .tc := ⟨.hbm, 61, rfl⟩
abbrev main_v13 : Ref sig .tc := ⟨.hbm, 62, rfl⟩
abbrev main_v14 : Ref sig .tc := ⟨.hbm, 63, rfl⟩
abbrev main_cst_0 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩

abbrev nD : Nat := 1
abbrev τ : Topo := Topo.v7x

variable {F : FTy → Type} [FloatOps F]
-- ==== Proof.EdgeIdeal.Setup.lean ====
/-
  The program as the launch theorem sees it, the resource algebra, the kernel's buffers, and the values the kernel computes:
  the clipped node index, the score of one edge, and the array of all edges' scores as a function of the node projections
  and the edge list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Pipeline.Value
public import Idealize.ShloMosaic.Lib.Pipeline.FrameBody
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging pipeline's rounds, the transfers' counters -/

abbrev UH : Type := URounds (GSem nD τ sig) ℕ
abbrev UU : Type := UH × (UR sig nD τ × Counters)

local notation "𝕄" => MT nD τ sig (HIx 1) (Elt F) ℕ UU ℕ

/-- The handshakes' rounds, the left factor. -/
abbrev EH : Emb UH (MT nD τ sig (HIx 1) (Elt F) ℕ UU ℕ) := embL

/-- The staging pipeline's rounds, the left factor of the right factor. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb

instance EP_landsIn : (EP : Emb _ 𝕄).LandsIn (upEmb : UEmb _ 𝕄) := by unfold EP; infer_instance

/-! ## The buffers -/

/-- The node projections, the edge list and the edge scores, as @main's arrays on device `d`. -/
abbrev sLoc (d : Dev nD) : Loc nD τ sig := (SparseCore.T d).loc main_v2
abbrev eLoc (d : Dev nD) : Loc nD τ sig := (SparseCore.T d).loc main_v3
abbrev oLoc (d : Dev nD) : Loc nD τ sig := (SparseCore.T d).loc main_v4

/-! ## The values -/

/-- An index word clipped to `[0, 9999]` as the kernel clips it: at least 0, then at most 9999, as signed words. -/
def clip (w : BitVec 32) : BitVec 32 := IntOp.minsi 9999#32 (IntOp.maxsi 0#32 w)

/-- A clipped index is a node: below 10000. -/
theorem clip_lt (w : BitVec 32) : (clip w).toNat < 10000 := by
  unfold clip IntOp.minsi IntOp.maxsi
  split_ifs with h1 h2 h2 <;>
    simp only [BitVec.slt_eq_decide, decide_eq_true_eq, BitVec.toInt_eq_toNat_cond, BitVec.toNat_ofNat, Nat.reducePow, Nat.reduceMod] at * <;>
    omega

/-- A word that is a node already is not changed by the clip. -/
theorem clip_of_lt {w : BitVec 32} (h : w.toNat < 10000) : clip w = w := by
  unfold clip IntOp.minsi IntOp.maxsi
  split_ifs with h1 h2 h2 <;>
    simp only [BitVec.slt_eq_decide, decide_eq_true_eq, BitVec.toInt_eq_toNat_cond, BitVec.toNat_ofNat, Nat.reducePow, Nat.reduceMod] at * <;>
    first | rfl | (exfalso; omega) | (apply BitVec.eq_of_toNat_eq; simp only [BitVec.toNat_ofNat, Nat.reducePow, Nat.reduceMod]; omega)

/-- The node an index word names. -/
def node (w : BitVec 32) : Fin 10000 := ⟨(clip w).toNat, clip_lt w⟩

/-- A rank-one and a rank-two multi-index from their coordinates. -/
def at1 {n : ℕ} (i : Fin n) : (⟨1, ![n]⟩ : Shape).Idx := fun a => Fin.cast (by rw [Subsingleton.elim a 0]; rfl) i
def at2 {n k : ℕ} (i : Fin n) (j : Fin k) : (⟨2, ![n, k]⟩ : Shape).Idx := fun | 0 => i | 1 => j

variable [FloatOps F]

/-- The score of one edge from the projections of its two ends: `1 / (1 + exp (0 - (a + b)))`. -/
def edge (a b : F .f32) : F .f32 :=
  FloatOps.divf (Scalar.ofBits .f32 0x3F800000#32)
    (FloatOps.addf (Scalar.ofBits .f32 0x3F800000#32) (FloatOps.exp (FloatOps.subf (Scalar.ofBits .f32 0x00000000#32) (FloatOps.addf a b))))

/-- The edge scores: edge `e` has its source at entry `e` of the list and its destination at entry `160000 + e`; its score is
    `edge` of row 0 of the projections at the source and row 1 at the destination. -/
def outF (s : S2x10000.Idx → F .f32) (ei : S320000.Idx → BitVec 32) (e : S160000.Idx) : F .f32 :=
  edge (s (at2 0 (node (ei (at1 ⟨(e 0).val, lt_trans (e 0).isLt (by decide)⟩)))))
    (s (at2 1 (node (ei (at1 ⟨160000 + (e 0).val, lt_of_lt_of_le (Nat.add_lt_add_left (e 0).isLt 160000) (by decide)⟩)))))

end Cert.Proof.EdgeIdeal

end
-- ==== Proof.EdgeIdeal.TileSets.lean ====
/-
  A vector subcore's part of the kernel, named: its thread, the pieces of the arrays its copies move, its semaphores and
  scratch buffers, the closed forms of the offsets the kernel computes, and the block of edges that it writes.
-/
module

public import proofs.«01_k».proof.Proof.EdgeIdeal.Setup

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig (HIx 1) (Elt F) ℕ UU ℕ

-- the kernel's memrefs, spelt as the body table passes them
local notation "sW" => (Memref.whole Cert.KernelIdeal.main_v2_scv : Memref Cert.KernelIdeal.sig Kind.scVector Space.hbm Cert.KernelIdeal.S2x10000 EltTy.f32)
local notation "eW" => (Memref.whole Cert.KernelIdeal.main_v3_scv : Memref Cert.KernelIdeal.sig Kind.scVector Space.hbm Cert.KernelIdeal.S320000 EltTy.i32)
local notation "oW" => (Memref.whole Cert.KernelIdeal.main_v4_scv : Memref Cert.KernelIdeal.sig Kind.scVector Space.hbm Cert.KernelIdeal.S160000 EltTy.f32)
local notation "b0" => (Memref.whole Cert.KernelIdeal.cc1_scratch0 : Memref Cert.KernelIdeal.sig Kind.scVector Space.vmem Cert.KernelIdeal.S10000 EltTy.f32)
local notation "b1" => (Memref.whole Cert.KernelIdeal.cc1_scratch1 : Memref Cert.KernelIdeal.sig Kind.scVector Space.vmem Cert.KernelIdeal.S10000 EltTy.f32)
local notation "b2" => (Memref.whole Cert.KernelIdeal.cc1_scratch2 : Memref Cert.KernelIdeal.sig Kind.scVector Space.vmem Cert.KernelIdeal.S5008 EltTy.i32)
local notation "b3" => (Memref.whole Cert.KernelIdeal.cc1_scratch3 : Memref Cert.KernelIdeal.sig Kind.scVector Space.vmem Cert.KernelIdeal.S5008 EltTy.i32)
local notation "b4" => (Memref.whole Cert.KernelIdeal.cc1_scratch4 : Memref Cert.KernelIdeal.sig Kind.scVector Space.vmem Cert.KernelIdeal.S5008 EltTy.f32)

/-! ## Offsets in closed form -/

/-- The first source entry of tile `(c, s)` is `(2 s + c) * 5000`, -/
theorem off1_eq : ∀ i : grid1.Coords, k1_off1 i 0 = ((i 1).val * 2 + (i 0).val) * 5000 := by decide +kernel
/-- its first destination entry 160000 further, -/
theorem off2_eq : ∀ i : grid1.Coords, k1_off2 i 0 = 160000 + ((i 1).val * 2 + (i 0).val) * 5000 := by decide +kernel
/-- and its first edge the first source entry. -/
theorem off5_eq : ∀ i : grid1.Coords, k1_off5 i 0 = ((i 1).val * 2 + (i 0).val) * 5000 := by decide +kernel

/-- The loop makes 313 trips. -/
theorem trips_eq : k1_t1_loop.trips = 313 := by decide +kernel
/-- Trip `t` reads and writes lanes from `16 t`. -/
theorem off3_eq : ∀ t : Fin k1_t1_loop.trips, k1_off3 t 0 = 16 * t.val := by decide +kernel
theorem off4_eq : ∀ t : Fin k1_t1_loop.trips, k1_off4 t 0 = 16 * t.val := by decide +kernel

/-! ## The block of edges a tile writes -/

/-- The edges of tile `(c, s)`: those whose number divided by 5000 is `2 s + c`. -/
def oSet (c s : ℕ) : Finset S160000.Idx := Finset.univ.filter fun e => (e 0).val / 5000 = s * 2 + c
/-- The edges of core `c`: those whose number divided by 5000 has the parity of `c`. -/
def oCore (c : ℕ) : Finset S160000.Idx := Finset.univ.filter fun e => (e 0).val / 5000 % 2 = c

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev thr : Thread nD τ := V d (cV L) (jV L)

abbrev oRow : Memref sig .scVector .hbm S5000 .f32 := (oW).slice (Rect.unit (s := S160000) (k1_off5 L) S5000.size (k1_off5_inb L)) (fun _ => rfl)

omit [FloatOps F] in
/-- What the tile's last copy writes is the tile's block of edges. -/
theorem set_oRow : (oRow L).view.set = oSet (L 0).val (L 1).val := by
  show ((View.whole (main_v4_scv : Ref sig .scVector)).slice (Rect.unit (s := S160000) (k1_off5 L) S5000.size (k1_off5_inb L))).set = _
  rw [View.set_slice_whole]
  ext e
  rw [Rect.mem_set_unit]
  have h5 := off5_eq L
  constructor
  · intro h
    have h0 := h 0
    rw [h5] at h0
    have e1 : S5000.size 0 = 5000 := rfl
    rw [e1] at h0
    simp only [oSet, Finset.mem_filter, Finset.mem_univ, _root_.true_and]
    omega
  · intro h (a : Fin 1)
    obtain rfl : a = 0 := Subsingleton.elim _ _
    rw [h5]
    have e1 : S5000.size 0 = 5000 := rfl
    rw [e1]
    simp only [oSet, Finset.mem_filter, Finset.mem_univ, _root_.true_and] at h
    omega

/-! ## The tile's semaphores and buffers -/

abbrev g0 : GSem nD τ sig := (thr d L, .dma cc1_scoped0.sem)
abbrev g1 : GSem nD τ sig := (thr d L, .dma cc1_scoped1.sem)
abbrev g2 : GSem nD τ sig := (thr d L, .dma cc1_scoped2.sem)
abbrev g3 : GSem nD τ sig := (thr d L, .dma cc1_scoped3.sem)
abbrev g4 : GSem nD τ sig := (thr d L, .dma cc1_scoped4.sem)

omit [FloatOps F] in
theorem mem_own (n : DmaSem sig) (h : (SemLoc.dma n : SemLoc sig).isScoped .scVector = true) :
    ((thr d L, .dma n) : GSem nD τ sig) ∈ ownCells (thr d L) :=
  (mem_ownCells (g := ((thr d L, .dma n) : GSem nD τ sig))).mpr ⟨rfl, h⟩

omit [FloatOps F] in
theorem sem_ne {n k : DmaSem sig} (h : n ≠ k) : ((thr d L, .dma n) : GSem nD τ sig) ≠ (thr d L, .dma k) :=
  fun e => h (SemLoc.dma.inj (Prod.mk.inj e).2)

/-- The rest of the tile's semaphores, and of its buffers. -/
abbrev restSems : sProp 𝕄 :=
  bigSep ((((((ownCells (thr d L)).erase (g0 d L)).erase (g1 d L)).erase (g2 d L)).erase (g3 d L)).erase (g4 d L)) fun g => semVal g 0
abbrev restBufs : sProp 𝕄 :=
  bigSep ((((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4))
    fun b => iprop(∃ f, ((d, b) : Loc nD τ sig) ↦{fullShare} f)

omit [FloatOps F] in
/-- The five copy semaphores are among the tile's own. -/
theorem ownSems0_V :
    (ownSems0 (thr d L) : sProp 𝕄)
      = iprop(semVal (g0 d L) 0 ∗ semVal (g1 d L) 0 ∗ semVal (g2 d L) 0 ∗ semVal (g3 d L) 0 ∗ semVal (g4 d L) 0 ∗ restSems d L) := by
  unfold SparseCore.Cfg.ownSems0
  rw [SparseCore.bigSep_erase' (mem_own d L cc1_scoped0.sem (by decide)),
    SparseCore.bigSep_erase' (Finset.mem_erase.mpr ⟨sem_ne d L (by decide), mem_own d L cc1_scoped1.sem (by decide)⟩),
    SparseCore.bigSep_erase' (Finset.mem_erase.mpr ⟨sem_ne d L (by decide), Finset.mem_erase.mpr ⟨sem_ne d L (by decide), mem_own d L cc1_scoped2.sem (by decide)⟩⟩),
    SparseCore.bigSep_erase' (Finset.mem_erase.mpr ⟨sem_ne d L (by decide), Finset.mem_erase.mpr ⟨sem_ne d L (by decide), Finset.mem_erase.mpr ⟨sem_ne d L (by decide),
      mem_own d L cc1_scoped3.sem (by decide)⟩⟩⟩),
    SparseCore.bigSep_erase' (Finset.mem_erase.mpr ⟨sem_ne d L (by decide), Finset.mem_erase.mpr ⟨sem_ne d L (by decide), Finset.mem_erase.mpr ⟨sem_ne d L (by decide),
      Finset.mem_erase.mpr ⟨sem_ne d L (by decide), mem_own d L cc1_scoped4.sem (by decide)⟩⟩⟩⟩)]

omit [FloatOps F] in
theorem ref_ne {a b : Ref sig .scVector} (h : a ≠ b) : (Proc.scVector (cV L) (jV L)).devRef a ≠ (Proc.scVector (cV L) (jV L)).devRef b :=
  fun e => h (Proc.devRef_injective _ e)

omit [FloatOps F] in
/-- The five scratch buffers are among the tile's own, each at some contents. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ restBufs d L) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨ref_ne L (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ref_ne L (show (cc1_scratch2 : Ref sig .scVector) ≠ cc1_scratch1 by decide),
      Finset.mem_erase.mpr ⟨ref_ne L (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨ref_ne L (show (cc1_scratch3 : Ref sig .scVector) ≠ cc1_scratch2 by decide),
      Finset.mem_erase.mpr ⟨ref_ne L (show (cc1_scratch3 : Ref sig .scVector) ≠ cc1_scratch1 by decide),
      Finset.mem_erase.mpr ⟨ref_ne L (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨ref_ne L (show (cc1_scratch4 : Ref sig .scVector) ≠ cc1_scratch3 by decide),
      Finset.mem_erase.mpr ⟨ref_ne L (show (cc1_scratch4 : Ref sig .scVector) ≠ cc1_scratch2 by decide),
      Finset.mem_erase.mpr ⟨ref_ne L (show (cc1_scratch4 : Ref sig .scVector) ≠ cc1_scratch1 by decide),
      Finset.mem_erase.mpr ⟨ref_ne L (show (cc1_scratch4 : Ref sig .scVector) ≠ cc1_scratch0 by decide),
      SparseCore.Cfg.mem_ownRefs_of_owner (p := Proc.scVector (cV L) (jV L)) (b := (Proc.scVector (cV L) (jV L)).devRef cc1_scratch4) rfl⟩⟩⟩⟩)]

end Tile

end Cert.Proof.EdgeIdeal

end
-- ==== Proof.EdgeIdeal.Trip.lean ====
/-
  A vector subcore's run of the kernel: it copies both rows of the node projections and its blocks of the edge list into its
  scratch, computes the scores sixteen edges at a time, and copies its block of scores out.
-/
module

public import proofs.«01_k».proof.Proof.EdgeIdeal.TileSets

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig (HIx 1) (Elt F) ℕ UU ℕ

-- the kernel's memrefs, spelt as the body table passes them
local notation "sW" => (Memref.whole Cert.KernelIdeal.main_v2_scv : Memref Cert.KernelIdeal.sig Kind.scVector Space.hbm Cert.KernelIdeal.S2x10000 EltTy.f32)
local notation "eW" => (Memref.whole Cert.KernelIdeal.main_v3_scv : Memref Cert.KernelIdeal.sig Kind.scVector Space.hbm Cert.KernelIdeal.S320000 EltTy.i32)
local notation "oW" => (Memref.whole Cert.KernelIdeal.main_v4_scv : Memref Cert.KernelIdeal.sig Kind.scVector Space.hbm Cert.KernelIdeal.S160000 EltTy.f32)
local notation "b0" => (Memref.whole Cert.KernelIdeal.cc1_scratch0 : Memref Cert.KernelIdeal.sig Kind.scVector Space.vmem Cert.KernelIdeal.S10000 EltTy.f32)
local notation "b1" => (Memref.whole Cert.KernelIdeal.cc1_scratch1 : Memref Cert.KernelIdeal.sig Kind.scVector Space.vmem Cert.KernelIdeal.S10000 EltTy.f32)
local notation "b2" => (Memref.whole Cert.KernelIdeal.cc1_scratch2 : Memref Cert.KernelIdeal.sig Kind.scVector Space.vmem Cert.KernelIdeal.S5008 EltTy.i32)
local notation "b3" => (Memref.whole Cert.KernelIdeal.cc1_scratch3 : Memref Cert.KernelIdeal.sig Kind.scVector Space.vmem Cert.KernelIdeal.S5008 EltTy.i32)
local notation "b4" => (Memref.whole Cert.KernelIdeal.cc1_scratch4 : Memref Cert.KernelIdeal.sig Kind.scVector Space.vmem Cert.KernelIdeal.S5008 EltTy.f32)

section Tile

variable (d : Dev nD) (L : grid1.Coords)
variable (s : Buf (Elt F) (sLoc d)) (ei : Buf (Elt F) (eLoc d)) (fo : Buf (Elt F) (oLoc d)) (q : PosShare TreeShare)

omit [FloatOps F] in
theorem pts_s :
    ((sW).view.loc (thr d L) ↦{q} s : sProp 𝕄) = sLoc d ↦{q} s := by
  simp only [Memref.view_whole, View.set_whole]
omit [FloatOps F] in
theorem pts_e :
    ((eW).view.loc (thr d L) ↦{q} ei : sProp 𝕄) = eLoc d ↦{q} ei := by
  simp only [Memref.view_whole, View.set_whole]
omit [FloatOps F] in
theorem pts_o (f : Buf (Elt F) (oLoc d)) :
    ((oRow L).view.loc (thr d L) ↦[(oRow L).view.set]{fullShare} f : sProp 𝕄) = oLoc d ↦[oSet (L 0).val (L 1).val]{fullShare} f := by
  rw [set_oRow]

/-- The lanes below `16 k` of the score scratch hold their edges' scores, over the contents `a0 a1` of the projection rows'
    scratch and `a2 a3` of the index scratch. -/
def Done (a0 a1 : S10000.Idx → F .f32) (a2 a3 : S5008.Idx → BitVec 32) (k : ℕ) (f : S5008.Idx → F .f32) : Prop :=
  ∀ j : S5008.Idx, (j 0).val < 16 * k → f j = edge (a0 (at1 (node (a2 j)))) (a1 (at1 (node (a3 j))))

/-- The loop's invariant: the rows and the indices unchanged, the score scratch done up to the trip. -/
def inv (a0 a1 : S10000.Idx → F .f32) (a2 a3 : S5008.Idx → BitVec 32) (k : ℕ) (_ : Unit) : sProp 𝕄 :=
  iprop(((b0).view.loc (thr d L) ↦{fullShare} a0) ∗ ((b1).view.loc (thr d L) ↦{fullShare} a1)
    ∗ ((b2).view.loc (thr d L) ↦{fullShare} a2) ∗ ((b3).view.loc (thr d L) ↦{fullShare} a3)
    ∗ ∃ f, ⌜Done a0 a1 a2 a3 k f⌝ ∗ (b4).view.loc (thr d L) ↦{fullShare} f)

omit [FloatOps F] in
/-- The clipped sources and destinations pass the kernel's checks. -/
theorem chk1_pay1 (v : Vec F S16 .i32) : k1_chk1 (k1_pay1 (F := F) v) := by
  intro (a : Fin 1) x
  obtain rfl : a = 0 := Subsingleton.elim _ _
  exact clip_lt (v x)
omit [FloatOps F] in
theorem chk2_pay2 (v : Vec F S16 .i32) : k1_chk2 (k1_pay2 (F := F) v) := by
  intro (a : Fin 1) x
  obtain rfl : a = 0 := Subsingleton.elim _ _
  exact clip_lt (v x)

omit [FloatOps F] in
/-- The multi-index of a rank-one shape is that of its coordinate. -/
theorem at1_eta {n : ℕ} (j : (⟨1, ![n]⟩ : Shape).Idx) (i : Fin n) (h : (j 0).val = i.val) : at1 i = j :=
  funext fun (a : Fin 1) => by
    obtain rfl : a = 0 := Subsingleton.elim _ _
    exact Fin.ext h.symm

/-- What a trip stores at lane `x`: the score from the two rows at the clipped words that the trip loaded. -/
theorem stored (a0 a1 : S10000.Idx → F .f32) (a2 a3 : S5008.Idx → BitVec 32) (k : Fin k1_t1_loop.trips) (x : S16.Idx) (j : S5008.Idx)
    (hj : (j 0).val = 16 * k.val + (x 0).val) (h1 h2) :
    k1_pay3 (F := F)
        (loadIdx (View.read (Elt F) ((b0).access (Rect.whole S10000)) a0)
          ![k1_pay1 (F := F) ((b2).view.readAt (Elt F) (Rect.unit (s := S5008) (k1_off3 k) S16.size (k1_off3_inb k)).toLoadRect a2)] h1)
        (loadIdx (View.read (Elt F) ((b1).access (Rect.whole S10000)) a1)
          ![k1_pay2 (F := F) ((b3).view.readAt (Elt F) (Rect.unit (s := S5008) (k1_off3 k) S16.size (k1_off3_inb k)).toLoadRect a3)] h2) x
      = edge (a0 (at1 (node (a2 j)))) (a1 (at1 (node (a3 j)))) := by
  have hidx : (Rect.unit (s := S5008) (k1_off3 k) S16.size (k1_off3_inb k)).toLoadRect.idx x = j := funext fun (a : Fin 1) => by
    obtain rfl : a = 0 := Subsingleton.elim _ _
    apply Fin.ext
    show k1_off3 k 0 + 1 * (x 0).val = (j 0).val
    rw [off3_eq]; omega
  have e0 := Memref.read_access_whole (Elt F) cc1_scratch0 a0
  have e1 := Memref.read_access_whole (Elt F) cc1_scratch1 a1
  show edge (View.read (Elt F) ((b0).access (Rect.whole S10000)) a0 _) (View.read (Elt F) ((b1).access (Rect.whole S10000)) a1 _) = _
  refine congrArg₂ edge ?_ ?_
  · refine (congrFun e0 _).trans (congrArg a0 (at1_eta _ _ ?_).symm)
    show (clip (a2 ((Rect.unit (s := S5008) (k1_off3 k) S16.size (k1_off3_inb k)).toLoadRect.idx x))).toNat = (clip (a2 j)).toNat
    rw [hidx]
  · refine (congrFun e1 _).trans (congrArg a1 (at1_eta _ _ ?_).symm)
    show (clip (a3 ((Rect.unit (s := S5008) (k1_off3 k) S16.size (k1_off3_inb k)).toLoadRect.idx x))).toNat = (clip (a3 j)).toNat
    rw [hidx]

omit [FloatOps F] in
/-- The trip's store, over the score scratch: lanes `16 k` to `16 k + 15` at the payload, the others as they were. -/
theorem Done.step [FloatOps F] {a0 a1 : S10000.Idx → F .f32} {a2 a3 : S5008.Idx → BitVec 32} {k : Fin k1_t1_loop.trips} {f : S5008.Idx → F .f32}
    (hf : Done a0 a1 a2 a3 k.val f) (w : S16.Idx → F .f32)
    (hw : ∀ (x : S16.Idx) (j : S5008.Idx), (j 0).val = 16 * k.val + (x 0).val → w x = edge (a0 (at1 (node (a2 j)))) (a1 (at1 (node (a3 j))))) :
    Done a0 a1 a2 a3 (k.val + 1)
      ((b4).view.writes (Elt F) f [⟨Rect.unit (s := S5008) (k1_off4 k) S16.size (k1_off4_inb k), w⟩] : S5008.Idx → F .f32) := by
  intro j hj
  have hoff : k1_off4 k = fun _ => 16 * k.val := funext fun (a : Fin 1) => by
    obtain rfl : a = 0 := Subsingleton.elim _ _
    exact off4_eq k
  by_cases hlt : (j 0).val < 16 * k.val
  · refine Eq.trans ?_ (hf j hlt)
    exact View.read_writes_cons_unit_of_not_mem (Val := Elt F) (b4).view f (k1_off4_inb k) w [] j hoff 0 (Or.inl hlt)
  · have hx : (j 0).val - 16 * k.val < 16 := by omega
    refine Eq.trans ?_ (hw (at1 ⟨(j 0).val - 16 * k.val, hx⟩) j (by show (j 0).val = 16 * k.val + ((j 0).val - 16 * k.val); omega))
    exact View.read_writes_cons_unit_of_mem (Val := Elt F) (b4).view f (k1_off4_inb k) w [] j (at1 ⟨(j 0).val - 16 * k.val, hx⟩) hoff fun (a : Fin 1) => by
      obtain rfl : a = 0 := Subsingleton.elim _ _
      show (j 0).val = 16 * k.val + ((j 0).val - 16 * k.val); omega

/-- One trip of the loop: sixteen more lanes are done. -/
theorem trip (a0 a1 : S10000.Idx → F .f32) (a2 a3 : S5008.Idx → BitVec 32) (k : Fin k1_t1_loop.trips) :
    inv d L a0 a1 a2 a3 k.val () ⊢ wp frame (wpE (defs₀ (F := F)) 𝒱₀ (thr d L) none) Set.univ
      (k1_t1_body L sW (Memref.isWhole_whole _) eW (Memref.isWhole_whole _) oW (Memref.isWhole_whole _)
            b0 (Memref.isWhole_whole _) b1 (Memref.isWhole_whole _) b2 (Memref.isWhole_whole _) b3 (Memref.isWhole_whole _) b4 (Memref.isWhole_whole _)
            cc1_scoped0 cc1_scoped1 cc1_scoped2 cc1_scoped3 cc1_scoped4 k ()) fun x => inv d L a0 a1 a2 a3 (k.val + 1) x := by
  unfold inv k1_t1_body
  iintro ⟨H0, H1, H2, H3, %f, %hf, H4⟩
  sl_exec
  rw [wp_assume_of _ _ _ _ (show k1_chk1 (trip.sl.v12 a2 k) from chk1_pay1 _)]
  sl_exec
  rw [wp_assume_of _ _ _ _ (show k1_chk2 (trip.sl.v18 a3 k) from chk2_pay2 _)]
  sl_exec
  ihave H0 := (Entails.of_eq (show ((b0).view.loc (thr d L) ↦{fullShare} a0 : sProp 𝕄) = (((b0).access (.whole S10000)).loc (thr d L) ↦{fullShare} a0) from rfl)) $$ H0
  iapply (SparseCore.wp_vectorLoadIdx 𝒱₀ (thr d L) none Set.univ (base := b0) (S := Finset.univ) (q := fullShare) (Finset.subset_univ _)) $$ H0; iintro H0
  ihave H1 := (Entails.of_eq (show ((b1).view.loc (thr d L) ↦{fullShare} a1 : sProp 𝕄) = (((b1).access (.whole S10000)).loc (thr d L) ↦{fullShare} a1) from rfl)) $$ H1
  iapply (SparseCore.wp_vectorLoadIdx 𝒱₀ (thr d L) none Set.univ (base := b1) (S := Finset.univ) (q := fullShare) (Finset.subset_univ _)) $$ H1; iintro H1
  sl_exec
  sl_step
  isplitl [H0]; · iexact H0
  isplitl [H1]; · iexact H1
  isplitl [H2]; · iexact H2
  isplitl [H3]; · iexact H3
  iexists _; isplitr; swap; · iexact H4
  ipureintro
  exact hf.step _ fun x j hj => stored a0 a1 a2 a3 k x j hj _ _

end Tile

end Cert.Proof.EdgeIdeal

end
-- ==== Proof.EdgeIdeal.Tile.lean ====
/-
  A vector subcore's run of the kernel: it copies both rows of the node projections and its blocks of the edge list into its
  scratch, computes the scores sixteen edges at a time, and copies its block of scores out.
-/
module

public import proofs.«01_k».proof.Proof.EdgeIdeal.Trip

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig (HIx 1) (Elt F) ℕ UU ℕ

-- the kernel's memrefs, spelt as the body table passes them
local notation "sW" => (Memref.whole Cert.KernelIdeal.main_v2_scv : Memref Cert.KernelIdeal.sig Kind.scVector Space.hbm Cert.KernelIdeal.S2x10000 EltTy.f32)
local notation "eW" => (Memref.whole Cert.KernelIdeal.main_v3_scv : Memref Cert.KernelIdeal.sig Kind.scVector Space.hbm Cert.KernelIdeal.S320000 EltTy.i32)
local notation "oW" => (Memref.whole Cert.KernelIdeal.main_v4_scv : Memref Cert.KernelIdeal.sig Kind.scVector Space.hbm Cert.KernelIdeal.S160000 EltTy.f32)
local notation "b0" => (Memref.whole Cert.KernelIdeal.cc1_scratch0 : Memref Cert.KernelIdeal.sig Kind.scVector Space.vmem Cert.KernelIdeal.S10000 EltTy.f32)
local notation "b1" => (Memref.whole Cert.KernelIdeal.cc1_scratch1 : Memref Cert.KernelIdeal.sig Kind.scVector Space.vmem Cert.KernelIdeal.S10000 EltTy.f32)
local notation "b2" => (Memref.whole Cert.KernelIdeal.cc1_scratch2 : Memref Cert.KernelIdeal.sig Kind.scVector Space.vmem Cert.KernelIdeal.S5008 EltTy.i32)
local notation "b3" => (Memref.whole Cert.KernelIdeal.cc1_scratch3 : Memref Cert.KernelIdeal.sig Kind.scVector Space.vmem Cert.KernelIdeal.S5008 EltTy.i32)
local notation "b4" => (Memref.whole Cert.KernelIdeal.cc1_scratch4 : Memref Cert.KernelIdeal.sig Kind.scVector Space.vmem Cert.KernelIdeal.S5008 EltTy.f32)

section Tile

variable (d : Dev nD) (L : grid1.Coords)
variable (s : Buf (Elt F) (sLoc d)) (ei : Buf (Elt F) (eLoc d)) (fo : Buf (Elt F) (oLoc d)) (q : PosShare TreeShare)

omit [FloatOps F] in
/-- A row of the projections, as the copy reads it. -/
theorem row_read (k : Fin 2) (h) (n : Fin 10000) :
    (((sW).slice (Rect.unit (s := S2x10000) ![k.val, 0] S1x10000.size h) (fun _ => rfl)).squeeze S10000 squeezes_S1x10000_S10000).view.read (Elt F) s (at1 n)
      = s (at2 k n) := by
  refine (congrFun (Memref.read_squeeze_slice (Val := Elt F) (sW) (Rect.unit (s := S2x10000) ![k.val, 0] S1x10000.size h) (fun _ => rfl)
    squeezes_S1x10000_S10000 squeezes_S1x10000_S10000.numel_eq s) _).trans ?_
  refine (shapeCast_dropUnit_apply _ _ _ _).trans ?_
  refine congrArg s (funext fun a => Fin.ext ?_)
  match a with
  | ⟨0, _⟩ => show k.val + 1 * 0 = k.val; omega
  | ⟨1, _⟩ => show 0 + 1 * n.val = n.val; omega

omit [FloatOps F] in
/-- A view's buffer at the place of an index is what the view reads at the index. -/
theorem heq_read {κ : Kind} {sp : Space} {s : Shape} {e : EltTy} (v : View sig κ sp s e) (f : v.ty.Contents (Elt F)) (x : s.Idx) (w : Elt F e)
    (h : v.read (Elt F) f x = w) : HEq (f (v.emb x)) w :=
  (cast_heq _ _).symm.trans (heq_of_eq ((View.read_apply (v := v) (Val := Elt F) f x).symm.trans h))

omit [FloatOps F] in
/-- An index block as it lies in its scratch: lane `j` below 5000 holds entry `off + j` of the edge list. -/
theorem idx_read (off : Fin 1 → ℕ) (inb : ∀ a, off a + S5000.size a ≤ S320000.size a) (M : Memref sig .scVector .vmem S5008 .i32) (f : M.view.ty.Contents (Elt F)) (j : S5008.Idx)
    (n : Fin 320000) (hj : (j 0).val < 5000) (hn : n.val = off 0 + (j 0).val) :
    HEq (M.view.writes (Elt F) f [⟨Rect.unit (s := S5008) ![0] S5000.size inb_S5008_S5000_0,
        ((eW).slice (Rect.unit (s := S320000) off S5000.size inb) (fun _ => rfl)).view.read (Elt F) ei⟩] (M.view.emb j)) (ei (at1 n)) := by
  apply heq_read
  refine (View.read_writes_cons_unit_of_mem (Val := Elt F) M.view f inb_S5008_S5000_0 _ [] j (at1 ⟨(j 0).val, hj⟩) rfl fun (a : Fin 1) => ?_).trans ?_
  · obtain rfl : a = 0 := Subsingleton.elim _ _
    exact (Nat.zero_add _).symm
  · refine congrArg ei (at1_eta _ n ?_).symm
    show off 0 + 1 * (j 0).val = n.val
    omega

omit [FloatOps F] in
/-- A view written whole reads back what was written. -/
theorem read_writes_whole {κ : Kind} {sp : Space} {s : Shape} {e : EltTy} (v : View sig κ sp s e) (f : v.ty.Contents (Elt F)) (w : s.Idx → Elt F e) (x : s.Idx) :
    HEq (v.writes (Elt F) f [⟨Rect.whole s, w⟩] (v.emb x)) (w x) :=
  heq_read v _ x _ <| View.read_writes_cons_hit (Val := Elt F) v f (Rect.whole s) w [] x x (Rect.emb_whole_apply s x)

/-- The block of scores that the last copy writes is the tile's block of the score array. -/
theorem block (a0 a1 : S10000.Idx → F .f32) (a2 a3 : S5008.Idx → BitVec 32) (f : S5008.Idx → F .f32)
    (h0 : ∀ n, a0 (at1 n) = s (at2 0 n)) (h1 : ∀ n, a1 (at1 n) = s (at2 1 n))
    (h2 : ∀ (j : S5008.Idx) (n : Fin 320000), (j 0).val < 5000 → n.val = k1_off1 L 0 + (j 0).val → a2 j = ei (at1 n))
    (h3 : ∀ (j : S5008.Idx) (n : Fin 320000), (j 0).val < 5000 → n.val = k1_off2 L 0 + (j 0).val → a3 j = ei (at1 n))
    (hf : Done a0 a1 a2 a3 313 f) (w : S5000.Idx → F .f32)
    (hw : ∀ (x : S5000.Idx) (j : S5008.Idx), (j 0).val = (x 0).val → w x = f j) :
    ∀ e ∈ (oRow L).view.set, ((oRow L).view.writes (Elt F) fo [⟨Rect.whole S5000, w⟩]) e = (outF s ei : Buf (Elt F) (oLoc d)) e := by
  intro e he
  obtain ⟨x, -, rfl⟩ := Finset.mem_map.mp he
  have hx5 : (x 0).val < 5000 := (x 0).isLt
  have hpos : (((oRow L).view.emb x) 0).val = k1_off5 L 0 + (x 0).val := by
    show k1_off5 L 0 + 1 * (x 0).val = _
    omega
  have hwr : ((oRow L).view.writes (Elt F) fo [⟨Rect.whole S5000, w⟩]) ((oRow L).view.emb x) = w x :=
    eq_of_heq <| read_writes_whole (oRow L).view fo w x
  have hj : (x 0).val < 5008 := by omega
  have hlt : (at1 (n := 5008) ⟨(x 0).val, hj⟩ 0).val < 16 * 313 := by show (x 0).val < _; omega
  refine hwr.trans ((hw x (at1 ⟨(x 0).val, hj⟩) rfl).trans ((hf _ hlt).trans ?_))
  rw [h0, h1]
  refine congrArg₂ edge (congrArg (fun u => s (at2 0 (node u))) ?_) (congrArg (fun u => s (at2 1 (node u))) ?_)
  · exact h2 _ _ hx5 (by show (((oRow L).view.emb x) 0).val = k1_off1 L 0 + (x 0).val; rw [hpos, off5_eq, off1_eq])
  · exact h3 _ _ hx5 (by show 160000 + (((oRow L).view.emb x) 0).val = k1_off2 L 0 + (x 0).val; rw [hpos, off5_eq, off2_eq]; omega)

/-- A tile's resources: the projections and the edge list, read, and the tile's block of the score array at `f`. -/
abbrev tileRes (f : Buf (Elt F) (oLoc d)) : sProp 𝕄 :=
  iprop((sLoc d ↦{q} s) ∗ (eLoc d ↦{q} ei) ∗ oLoc d ↦[oSet (L 0).val (L 1).val]{fullShare} f)

theorem tile_body (O : CellTallies nD τ sig (HIx 1)) (W : Waits sig (HIx 1)) (hO : ∀ g, O g none = 0) :
    iprop(levAts (K (F := F)).L (K (F := F)).lev ∗ emp
        ∗ tileRes d L s ei q fo
        ∗ scopedBufs (thr d L) ∗ scopedSems0 (thr d L) ∗ owes (thr d L) O W)
      ⊢ wp frame (wpE (defs₀ (F := F)) 𝒱₀ (thr d L) none) Set.univ
          (cc1__edge_score_kernel L sW (Memref.isWhole_whole _) eW (Memref.isWhole_whole _) oW (Memref.isWhole_whole _)
            b0 (Memref.isWhole_whole _) b1 (Memref.isWhole_whole _) b2 (Memref.isWhole_whole _) b3 (Memref.isWhole_whole _) b4 (Memref.isWhole_whole _)
            cc1_scoped0 cc1_scoped1 cc1_scoped2 cc1_scoped3 cc1_scoped4)
          fun _ => iprop(tileRes d L s ei q (outF s ei : Buf (Elt F) (oLoc d))
            ∗ scopedBufs (thr d L) ∗ scopedSems0 (thr d L) ∗ ∃ W', ⌜∀ p ∈ W', p ∈ W ∨ p.2 = none⌝ ∗ owes (thr d L) O W') := by
  simp only [cc1__edge_score_kernel_eq_skeleton]; unfold cc1__edge_score_kernel_skel
  simp only [k1_part1_eq_skeleton]; unfold k1_part1_skel
  rw [(K (F := F)).scopedBufs_V facts d (cV L) (jV L), SparseCore.Cfg.scopedSems0_V (Val := Elt F) d (cV L) (jV L), ownSems0_V, ownBufs_V]
  iintro ⟨#Hlv, -, ⟨Hs, He, Ho⟩, ⟨⟨%f0, H0⟩, ⟨%f1, H1⟩, ⟨%f2, H2⟩, ⟨%f3, H3⟩, ⟨%f4, H4⟩, Hbufs⟩, ⟨G0, G1, G2, G3, G4, Hsems⟩, HO⟩
  ihave Hmw := ((K (F := F)).mayWaits_none (thr := thr d L) hO) $$ Hlv
  ihave Hs := (Entails.of_eq (pts_s (F := F) d L s q).symm) $$ Hs
  ihave He := (Entails.of_eq (pts_e (F := F) d L ei q).symm) $$ He
  ihave Ho := (Entails.of_eq (pts_o (F := F) d L fo).symm) $$ Ho
  ihave H0 := (Entails.of_eq (show ((thr d L).loc cc1_scratch0 ↦{fullShare} f0 : sProp 𝕄) = ((b0).view.loc (thr d L) ↦{fullShare} f0) from rfl)) $$ H0
  ihave H1 := (Entails.of_eq (show ((thr d L).loc cc1_scratch1 ↦{fullShare} f1 : sProp 𝕄) = ((b1).view.loc (thr d L) ↦{fullShare} f1) from rfl)) $$ H1
  ihave H2 := (Entails.of_eq (show ((thr d L).loc cc1_scratch2 ↦{fullShare} f2 : sProp 𝕄) = ((b2).view.loc (thr d L) ↦{fullShare} f2) from rfl)) $$ H2
  ihave H3 := (Entails.of_eq (show ((thr d L).loc cc1_scratch3 ↦{fullShare} f3 : sProp 𝕄) = ((b3).view.loc (thr d L) ↦{fullShare} f3) from rfl)) $$ H3
  ihave H4 := (Entails.of_eq (show ((thr d L).loc cc1_scratch4 ↦{fullShare} f4 : sProp 𝕄) = ((b4).view.loc (thr d L) ↦{fullShare} f4) from rfl)) $$ H4
  sl_exec (disch := exact View.amount_pos _ _ (show 0 < S5000.numel by decide))
  sl_for (inv d L (View.write (Elt F) (b0).view f0 (tile_body.sl.dma0 d s) Finset.univ) (View.write (Elt F) (b1).view f1 (tile_body.sl.dma0_1 d s) Finset.univ)
    ((b2).view.writes (Elt F) f2 [⟨Rect.unit ![0] S5000.size inb_S5008_S5000_0, tile_body.sl.dma0_2 d L ei⟩])
    ((b3).view.writes (Elt F) f3 [⟨Rect.unit ![0] S5000.size inb_S5008_S5000_0, tile_body.sl.dma0_3 d L ei⟩])) $$ [H0 H1 H2 H3 H4]
  case region =>
    intro k _
    exact trip d L _ _ _ _ k
  · unfold inv
    isplitl [H0]; · iexact H0
    isplitl [H1]; · iexact H1
    isplitl [H2]; · iexact H2
    isplitl [H3]; · iexact H3
    iexists _; isplitr; swap; · iexact H4
    ipureintro
    exact fun j hj => absurd hj (Nat.not_lt_zero _)
  iintro %_ HI
  unfold inv
  icases HI with ⟨H0, H1, H2, H3, %f, %hf, H4⟩
  sl_exec (disch := exact View.amount_pos _ _ (show 0 < S5000.numel by decide))
  sl_step
  have hw : ∀ (x : S5000.Idx) (j : S5008.Idx), (j 0).val = (x 0).val → tile_body.sl.dma0_4 f x = f j := fun x j hj =>
    congrArg f (funext fun (a : Fin 1) => Fin.ext (by
      obtain rfl : a = 0 := Subsingleton.elim _ _
      show 0 + 1 * (x 0).val = (j 0).val
      omega))
  isplitl [Hs He Ho]
  · isplitl [Hs]; · iapply (Entails.of_eq (pts_s (F := F) d L s q)) $$ Hs
    isplitl [He]; · iapply (Entails.of_eq (pts_e (F := F) d L ei q)) $$ He
    have h0 : ∀ n, View.write (Elt F) (b0).view f0 (tile_body.sl.dma0 d s) Finset.univ (at1 n) = s (at2 0 n) := fun n =>
      (congrFun (View.write_whole_univ (Val := Elt F) cc1_scratch0 f0 _) (at1 n)).trans (row_read d s 0 _ n)
    have h1 : ∀ n, View.write (Elt F) (b1).view f1 (tile_body.sl.dma0_1 d s) Finset.univ (at1 n) = s (at2 1 n) := fun n =>
      (congrFun (View.write_whole_univ (Val := Elt F) cc1_scratch1 f1 _) (at1 n)).trans (row_read d s 1 _ n)
    have h2 : ∀ (j : S5008.Idx) (n : Fin 320000), (j 0).val < 5000 → n.val = k1_off1 L 0 + (j 0).val →
        (b2).view.writes (Elt F) f2 [⟨Rect.unit ![0] S5000.size inb_S5008_S5000_0, tile_body.sl.dma0_2 d L ei⟩] j = ei (at1 n) :=
      fun j n hj hn => eq_of_heq <| idx_read d ei _ _ b2 f2 j n hj hn
    have h3 : ∀ (j : S5008.Idx) (n : Fin 320000), (j 0).val < 5000 → n.val = k1_off2 L 0 + (j 0).val →
        (b3).view.writes (Elt F) f3 [⟨Rect.unit ![0] S5000.size inb_S5008_S5000_0, tile_body.sl.dma0_3 d L ei⟩] j = ei (at1 n) :=
      fun j n hj hn => eq_of_heq <| idx_read d ei _ _ b3 f3 j n hj hn
    iapply (Entails.of_eq (pts_o (F := F) d L (outF s ei)))
    iapply (Entails.of_eq (pointsTo_congr (block d L s ei fo _ _ _ _ f h0 h1 h2 h3 (trips_eq ▸ hf) _ hw))) $$ Ho
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [G0 G1 G2 G3 G4 Hsems]
  · isplitl [G0]; · iexact G0
    isplitl [G1]; · iexact G1
    isplitl [G2]; · iexact G2
    isplitl [G3]; · iexact G3
    isplitl [G4]; · iexact G4
    iexact Hsems
  iexists _; isplitr; swap; · iexact HO
  ipureintro
  intro p hp
  simp only [Finset.mem_insert] at hp
  rcases hp with rfl | rfl | rfl | rfl | rfl | hp
  all_goals first | exact Or.inr rfl | exact Or.inl hp

end Tile

end Cert.Proof.EdgeIdeal

end
-- ==== Proof.EdgeIdeal.Region.lean ====
/-
  The TensorCore's kernel: it loads the weights' two halves, the features and the bias, and stores the node projections. Its
  body's run.
-/
module

public import proofs.«01_k».proof.Proof.EdgeIdeal.Tile

@[expose] public section

noncomputable section

namespace Cert.Proof.EdgeIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

/-- A memref's buffer on core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two offsets of a load or store of a whole matrix are zero. -/
theorem hz2 : (![0, 0] : Fin 2 → Nat) = fun _ => 0 := funext fun a => by fin_cases a <;> rfl

omit [FloatOps F] in
/-- One store through a whole buffer's rectangle leaves what it stored. -/
theorem writes_unit_zero {κ : Kind} (b : Ref sig κ) {off : Fin b.ty.shape.rank → ℕ} (h : off = fun _ => 0) (inb : ∀ a, off a + b.ty.shape.size a ≤ b.ty.shape.size a)
    (f w : b.ty.Contents (Elt F)) :
    (Memref.whole b : Memref sig κ _ _ _).view.writes (Elt F) f [⟨Rect.unit off b.ty.shape.size inb, w⟩] = w :=
  (View.writes_singleton (Val := Elt F) _ _ _ _).trans (Memref.write_access_unit_zero_univ (Elt F) b h inb f w)

/-- The body's run on whole staging buffers: it leaves the projections of the three inputs in the result's. -/
theorem proj_run (c : Dev nD) (f0 : S10000x256.Idx → F .f32) (f1 : S2x256.Idx → F .f32) (f2 : S1x1.Idx → F .f32) (f3 : S2x10000.Idx → F .f32)
    (E : Set ℕ) (Q : PUnit → sProp 𝕄) :
    iprop(pt c (stage0_0 0) f0 ∗ pt c (stage0_1 0) f1 ∗ pt c (stage0_2 0) f2 ∗ pt c (stage0_3 0) f3
        ∗ (iprop(pt c (stage0_0 0) f0 ∗ pt c (stage0_1 0) f1 ∗ pt c (stage0_2 0) f2 ∗ pt c (stage0_3 0) (k0_pay1 (F := F) f1 f0 f2)) -∗ Q ⟨⟩))
      ⊢ wp frame (wpE (defs₀ (F := F)) Variants.none c none) E
          (cc0__node_proj_body (stage0_0 0) (hstage0_0 0) (stage0_1 0) (hstage0_1 0) (stage0_2 0) (hstage0_2 0) (stage0_3 0) (hstage0_3 0)) Q := by
  rw [cc0__node_proj_body_eq_skeleton]; unfold cc0__node_proj_body_skel
  iintro ⟨H0, H1, H2, H3, Hk⟩
  sl_exec!
  sl_step
  have e0 := Memref.readAt_unit_zero (Elt F) cc0_stg0_0 hz2 inb_S10000x256_S10000x256_0_0 f0
  have e1 := Memref.readAt_unit_zero (Elt F) cc0_stg1_0 hz2 inb_S2x256_S2x256_0_0 f1
  have e2 := Memref.readAt_unit_zero (Elt F) cc0_stg2_0 hz2 inb_S1x1_S1x1_0_0 f2
  have e3 := writes_unit_zero (F := F) cc0_stg3_0 hz2 inb_S2x10000_S2x10000_0_0 (stage0_3 0).view.junk
    (k0_pay1 (F := F)
      ((Memref.whole cc0_stg1_0).view.readAt (Elt F) (Rect.unit ![0, 0] S2x256.size inb_S2x256_S2x256_0_0).toLoadRect f1)
      ((Memref.whole cc0_stg0_0).view.readAt (Elt F) (Rect.unit ![0, 0] S10000x256.size inb_S10000x256_S10000x256_0_0).toLoadRect f0)
      ((Memref.whole cc0_stg2_0).view.readAt (Elt F) (Rect.unit ![0, 0] S1x1.size inb_S1x1_S1x1_0_0).toLoadRect f2))
  have e4 : (stage0_3 0).view.writes (Elt F) (stage0_3 0).view.junk (proj_run.sl.H3_1 f0 f1 f2) = k0_pay1 (F := F) f1 f0 f2 := by
    refine Eq.trans e3 ?_
    exact congr (congr (congrArg (k0_pay1 (F := F)) e1) e0) e2
  ihave H3 := (Entails.of_eq (congrArg (fun f => pt c (stage0_3 0) f) e4)) $$ H3
  iapply Hk
  isplitl [H0]; · iexact H0
  isplitl [H1]; · iexact H1
  isplitl [H2]; · iexact H2
  iexact H3

end Region

end Cert.Proof.EdgeIdeal

end
-- ==== Proof.EdgeIdeal.Proj.lean ====
/-
  The step of @main that runs the TensorCore's kernel, over @main's buffers: its pipeline's proof data, its body's obligation,
  what its result array holds after, and the step's entry and exit.
-/
module

public import proofs.«01_k».proof.Proof.EdgeIdeal.Region
public import Idealize.ShloMosaic.Lib.Pipeline.RegionsLoop

@[expose] public section

noncomputable section

namespace Cert.Proof.EdgeIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Proj

variable (V : (c : Dev nD) → (b : Ref sig .tc) → Buf (Elt F) ((c : Thread nD τ).loc b))

/-- The features, the weights' halves and the bias as the fetch stages them: the arrays read through their windows' blocks. -/
abbrev stg0 (c : Dev nD) : (cfg0.win 0).block.Idx → Elt F (cfg0.win 0).elt := ((cfg0.win 0).blk t0_0).view.read (Elt F) (V c main_arg0)
abbrev stg1 (c : Dev nD) : (cfg0.win 1).block.Idx → Elt F (cfg0.win 1).elt := ((cfg0.win 1).blk t0_0).view.read (Elt F) (V c main_v0)
abbrev stg2 (c : Dev nD) : (cfg0.win 2).block.Idx → Elt F (cfg0.win 2).elt := ((cfg0.win 2).blk t0_0).view.read (Elt F) (V c main_v1)

/-- The scoped buffers the pipeline does not stage, held at something. -/
abbrev Φc (c : Dev nD) : sProp 𝕄 := Pipeline.scopedRest (Ix := HIx 1) (Name := ℕ) (U := UU) (Lvl := ℕ) (Val := Elt F) spec0 c

/-- The step's proof data from contents `V`: the arrays at `V`; after the body the input buffers as fetched and the result's at
    the projections; what the launch's handshakes still owe stays owed. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => k0_pay1 (F := F) (stg1 V c) (stg0 V c) (stg2 V c)
  Φ _ := Φc c
  q _ := fullShare
  owed _ := (K (F := F)).Otc c 0
  recorded _ := {p | p.2 = none}

/-! Each input window's buffer holds its array's block when the body runs. -/

theorem before_in0 (c : Dev nD) (d : (cfg0.win 0).block.Idx → Elt F (cfg0.win 0).elt) : (dat V c).before 0 t0_0 d = stg0 V c := by
  unfold Dat.before; rw [if_pos (by decide)]; rfl

theorem before_in1 (c : Dev nD) (d : (cfg0.win 1).block.Idx → Elt F (cfg0.win 1).elt) : (dat V c).before 1 t0_0 d = stg1 V c := by
  unfold Dat.before; rw [if_pos (by decide)]; rfl

theorem before_in2 (c : Dev nD) (d : (cfg0.win 2).block.Idx → Elt F (cfg0.win 2).elt) : (dat V c).before 2 t0_0 d = stg2 V c := by
  unfold Dat.before; rw [if_pos (by decide)]; rfl

/-- The body's obligation at the one grid point: from the buffers as fetched it leaves them as `dat` states. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_in0 V c] at hf0
  rw [before_in1 V c] at hf1
  rw [before_in2 V c] at hf2
  subst hf0 hf1 hf2
  iapply (proj_run c (stg0 V c) (stg1 V c) (stg2 V c) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The node projections from the contents `V` of the weights' halves, the features and the bias. -/
def score (c : Dev nD) : S2x10000.Idx → F .f32 := k0_pay1 (F := F) (V c main_v0) (V c main_arg0) (V c main_v1)

/-- The result array after the step holds the node projections. -/
theorem final_value (c : Dev nD) : (dat V c).arrAt 3 cfg0.N = score V c := by
  have hz0 : (fun a => (win0_0.index t0_0) a * main_arg0.ty.shape.size a) = fun _ => 0 := funext fun a => by fin_cases a <;> decide
  have hz1 : (fun a => (win0_1.index t0_0) a * main_v0.ty.shape.size a) = fun _ => 0 := funext fun a => by fin_cases a <;> decide
  have hz2 : (fun a => (win0_2.index t0_0) a * main_v1.ty.shape.size a) = fun _ => 0 := funext fun a => by fin_cases a <;> decide
  have hz3 : (fun a => (win0_3.index t0_0) a * main_v2.ty.shape.size a) = fun _ => 0 := funext fun a => by fin_cases a <;> decide
  have e0 : stg0 V c = V c main_arg0 := Memref.read_access_unit_zero (Elt F) main_arg0 hz0 (fun a => by fin_cases a <;> decide) _
  have e1 : stg1 V c = V c main_v0 := Memref.read_access_unit_zero (Elt F) main_v0 hz1 (fun a => by fin_cases a <;> decide) _
  have e2 : stg2 V c = V c main_v1 := Memref.read_access_unit_zero (Elt F) main_v1 hz2 (fun a => by fin_cases a <;> decide) _
  have e3 : (dat V c).flushed 3 t0_0 = score V c := by
    show (cfg0.win 3).cut _ ((dat V c).after 3 t0_0) = _
    dsimp only [dat]
    rw [e0, e1, e2]
    rfl
  rw [show cfg0.N = (t0_0).val + 1 from rfl, (dat V c).arrAt_succ 3 t0_0]
  rw [show (cfg0.win 3).flush t0_0 = true from by decide, if_pos rfl, e3]
  exact Memref.write_access_unit_zero_univ (Elt F) main_v2 hz3 (fun a => by fin_cases a <;> decide) _ _

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- What the step holds beside the buffers: what the handshakes owe, with waits recorded at no call. -/
abbrev tcOwes (c : Dev nD) : sProp 𝕄 := iprop(∃ W, ⌜∀ p ∈ W, p.2 = none⌝ ∗ owes (c : Thread nD τ) ((K (F := F)).Otc c 0) W)

set_option backward.isDefEq.respectTransparency.types false in
/-- The step: entered with every unscoped buffer at `V`, left with them at `Vp`, which differs from `V` at the result array only,
    where it has the node projections. -/
def reg (hVp_out : ∀ c, Vp c main_v2 = score V c) (hVp_ne : ∀ c (b : Ref sig .tc), b ≠ main_v2 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (pdats V adm) none 0 c (b := 0) ((K (F := F)).Otc c 0) (fun _ => rfl)
    (fun _ _ => Finset.mem_univ _) (fun _ _ => le_refl _)
    (fun g i h => ⟨Finset.mem_univ _, Nat.lt_of_lt_of_le (Nat.succ_pos _) (SparseCore.Cfg.lev_of_Otc_pos h)⟩)
  pre c := iprop(unscopedBufs c (V c) ∗ tcOwes c)
  post c := iprop(unscopedBufs c (Vp c) ∗ tcOwes c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_arg0 (by decide)).symm
        · exact ((pdats V adm 0 c).arrAt_in 1 rfl _).trans (hVp_ne c main_v0 (by decide)).symm
        · exact ((pdats V adm 0 c).arrAt_in 2 rfl _).trans (hVp_ne c main_v1 (by decide)).symm
        · exact (final_value V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h; rfl
    iexact HO

end Proj

end Cert.Proof.EdgeIdeal

end
-- ==== Proof.EdgeIdeal.Payload.lean ====
/-
  What the SparseCore call takes and brings back: the node projections and the edge list, read by every subcore, and each
  subcore's block of the score array. The splits over the two SparseCores and their sixteen subcores.
-/
module

public import proofs.«01_k».proof.Proof.EdgeIdeal.Proj

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

-- the kernel's memrefs, spelt as the body table passes them
local notation "sW" => (Memref.whole Cert.KernelIdeal.main_v2_scv : Memref Cert.KernelIdeal.sig Kind.scVector Space.hbm Cert.KernelIdeal.S2x10000 EltTy.f32)
local notation "eW" => (Memref.whole Cert.KernelIdeal.main_v3_scv : Memref Cert.KernelIdeal.sig Kind.scVector Space.hbm Cert.KernelIdeal.S320000 EltTy.i32)
local notation "oW" => (Memref.whole Cert.KernelIdeal.main_v4_scv : Memref Cert.KernelIdeal.sig Kind.scVector Space.hbm Cert.KernelIdeal.S160000 EltTy.f32)
local notation "b0" => (Memref.whole Cert.KernelIdeal.cc1_scratch0 : Memref Cert.KernelIdeal.sig Kind.scVector Space.vmem Cert.KernelIdeal.S10000 EltTy.f32)
local notation "b1" => (Memref.whole Cert.KernelIdeal.cc1_scratch1 : Memref Cert.KernelIdeal.sig Kind.scVector Space.vmem Cert.KernelIdeal.S10000 EltTy.f32)
local notation "b2" => (Memref.whole Cert.KernelIdeal.cc1_scratch2 : Memref Cert.KernelIdeal.sig Kind.scVector Space.vmem Cert.KernelIdeal.S5008 EltTy.i32)
local notation "b3" => (Memref.whole Cert.KernelIdeal.cc1_scratch3 : Memref Cert.KernelIdeal.sig Kind.scVector Space.vmem Cert.KernelIdeal.S5008 EltTy.i32)
local notation "b4" => (Memref.whole Cert.KernelIdeal.cc1_scratch4 : Memref Cert.KernelIdeal.sig Kind.scVector Space.vmem Cert.KernelIdeal.S5008 EltTy.f32)

variable (m : (ℓ : Loc nD τ sig) → Buf (Elt F) ℓ) (ρ : Dev nD → PrngReg)

/-! ## The values @main computes before the call -/

/-- The weights' two halves, the bias, and the edge list as one row of entries: @main's reshapes. -/
def wts (d : Dev nD) : S2x256.Idx → F .f32 := shapeCast S2x256 (m (d, Proc.devRef .tc main_arg2) : S512x1.Idx → F .f32) shapeCasts_S512x1_S2x256
def bia (d : Dev nD) : S1x1.Idx → F .f32 := shapeCast S1x1 (m (d, Proc.devRef .tc main_arg3) : S1.Idx → F .f32) shapeCasts_S1_S1x1
def eis (d : Dev nD) : S320000.Idx → BitVec 32 := shapeCast S320000 (m (d, Proc.devRef .tc main_arg1) : S2x160000.Idx → BitVec 32) shapeCasts_S2x160000_S320000
/-- The node projections. -/
def scs (d : Dev nD) : S2x10000.Idx → F .f32 := k0_pay1 (F := F) (wts m d) (m (d, Proc.devRef .tc main_arg0)) (bia m d)
/-- The edge scores the program ends with. -/
def res (d : Dev nD) : S160000.Idx → F .f32 := outF (scs m d) (eis m d)

/-! ## The call's payloads -/

theorem nCore_zero : (K (F := F)).nCore 0 = 2 := rfl
theorem nSub_zero : (K (F := F)).nSub 0 = 16 := rfl

/-- A SparseCore's share of an array that all read, and a subcore's. -/
def shC (c : Fin 2) : PosShare TreeShare := pieceOf fullShare 2 (by decide) c
def shT (c : Fin 2) (i : Fin 16) : PosShare TreeShare := pieceOf (shC c) 16 (by decide) i

/-- What SparseCore `c` holds, the score array's entries at `f`; and what subcore `i` of it holds. -/
def resC (d : Dev nD) (c : Fin 2) (f : S160000.Idx → F .f32) : sProp 𝕄 :=
  iprop((sLoc d ↦{shC c} (scs m d : Buf (Elt F) (sLoc d))) ∗ (eLoc d ↦{shC c} (eis m d : Buf (Elt F) (eLoc d)))
    ∗ oLoc d ↦[oCore c.val]{fullShare} (f : Buf (Elt F) (oLoc d)))
def resT (d : Dev nD) (c : Fin 2) (i : Fin 16) (f : S160000.Idx → F .f32) : sProp 𝕄 :=
  iprop((sLoc d ↦{shT c i} (scs m d : Buf (Elt F) (sLoc d))) ∗ (eLoc d ↦{shT c i} (eis m d : Buf (Elt F) (eLoc d)))
    ∗ oLoc d ↦[oSet c.val i.val]{fullShare} (f : Buf (Elt F) (oLoc d)))

instance resC_storable (d : Dev nD) (c : Fin 2) (f : S160000.Idx → F .f32) : BI.Storable (upEmb : UEmb _ 𝕄) (resC m d c f) := by
  unfold resC; infer_instance
instance resT_storable (d : Dev nD) (c : Fin 2) (i : Fin 16) (f : S160000.Idx → F .f32) : BI.Storable (upEmb : UEmb _ 𝕄) (resT m d c i f) := by
  unfold resT; infer_instance

/-- The call's payloads: out with the score array as launched, back with the edge scores. -/
def P : (K (F := F)).Pay (nD := nD) (Val := Elt F) (Name := ℕ) (U := UU) where
  st := fun q d c => match q with | 0 => resC m d (Fin.cast nCore_zero c) (m (oLoc d))
  dn := fun q d c => match q with | 0 => resC m d (Fin.cast nCore_zero c) (res m d)
  go := fun q d c i => match q with | 0 => resT m d (Fin.cast nCore_zero c) (Fin.cast nSub_zero i) (m (oLoc d))
  td := fun q d c i => match q with | 0 => resT m d (Fin.cast nCore_zero c) (Fin.cast nSub_zero i) (res m d)
  x := fun _ _ => iprop(emp)

instance P_storable : (P (F := F) m).IsStorable where
  st q d c := match q with | 0 => resC_storable m d (Fin.cast nCore_zero c) (m (oLoc d))
  dn q d c := match q with | 0 => resC_storable m d (Fin.cast nCore_zero c) (res m d)
  go q d c i := match q with | 0 => resT_storable m d (Fin.cast nCore_zero c) (Fin.cast nSub_zero i) (m (oLoc d))
  td q d c i := match q with | 0 => resT_storable m d (Fin.cast nCore_zero c) (Fin.cast nSub_zero i) (res m d)

/-! ## The subcores' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__edge_score_kernel (coordsV c s)
          sW (Memref.isWhole_whole _) eW (Memref.isWhole_whole _) oW (Memref.isWhole_whole _)
          b0 (Memref.isWhole_whole _) b1 (Memref.isWhole_whole _) b2 (Memref.isWhole_whole _) b3 (Memref.isWhole_whole _) b4 (Memref.isWhole_whole _)
          cc1_scoped0 cc1_scoped1 cc1_scoped2 cc1_scoped3 cc1_scoped4) ⟨⟩ c s := rfl

omit [FloatOps F] in
/-- Waits recorded at no call are among those recorded at no call or at call `q`. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each subcore's part of the call, from its payload out to its payload back. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (scs m d) (eis m d) (m (oLoc d)) (shT (Fin.cast nCore_zero c) (Fin.cast nSub_zero i)) O W hO).trans
    (wp_mono frame _ _ fun _ => obl_post)

/-! ## The splits -/

/-- Distinct subcores of a core write disjoint blocks, which make up the core's; and the two cores' make up the array. -/
theorem oSet_disjoint (c : ℕ) : ∀ i ∈ (Finset.univ : Finset (Fin 16)), ∀ j ∈ (Finset.univ : Finset (Fin 16)), i ≠ j → Disjoint (oSet c i.val) (oSet c j.val) :=
  fun i _ j _ h => Finset.disjoint_left.mpr fun e hi hj => by
    simp only [oSet, Finset.mem_filter, Finset.mem_univ, _root_.true_and] at hi hj
    exact h (Fin.ext (by omega))

theorem oSet_cover (c : Fin 2) : (Finset.univ : Finset (Fin 16)).biUnion (fun i => oSet c.val i.val) = oCore c.val := by
  ext e
  have he : (e 0).val < 160000 := (e 0).isLt
  have hc := c.isLt
  simp only [oSet, oCore, Finset.mem_biUnion, Finset.mem_filter, Finset.mem_univ, _root_.true_and]
  constructor
  · rintro ⟨i, hi⟩; omega
  · intro h; exact ⟨⟨(e 0).val / 5000 / 2, by omega⟩, by show (e 0).val / 5000 = (e 0).val / 5000 / 2 * 2 + c.val; omega⟩

theorem oCore_disjoint : ∀ i ∈ (Finset.univ : Finset (Fin 2)), ∀ j ∈ (Finset.univ : Finset (Fin 2)), i ≠ j → Disjoint (oCore i.val) (oCore j.val) :=
  fun i _ j _ h => Finset.disjoint_left.mpr fun e hi hj => by
    simp only [oCore, Finset.mem_filter, Finset.mem_univ, _root_.true_and] at hi hj
    exact h (Fin.ext (by omega))

theorem oCore_cover : (Finset.univ : Finset (Fin 2)).biUnion (fun c => oCore c.val) = Finset.univ := by
  ext e
  simp only [oCore, Finset.mem_biUnion, Finset.mem_filter, Finset.mem_univ, _root_.true_and, iff_true]
  exact ⟨⟨(e 0).val / 5000 % 2, Nat.mod_lt _ (by decide)⟩, rfl⟩

/-- A core's resources are its subcores'. -/
theorem resC_eq (d : Dev nD) (c : Fin 2) (f : S160000.Idx → F .f32) : resC m d c f = bigSep Finset.univ fun i : Fin 16 => resT m d c i f := by
  unfold resC resT shT
  rw [bigSep_sep', bigSep_sep', ← pointsTo_piecesOf, ← pointsTo_piecesOf, ← oSet_cover c,
    ← pointsTo_biUnion Finset.univ (ℓ := oLoc d) (fun i : Fin 16 => oSet c.val i.val) (oSet_disjoint c.val)]

/-- The three arrays whole are the two cores' resources. -/
theorem whole_eq (d : Dev nD) (f : S160000.Idx → F .f32) :
    iprop((sLoc d ↦{fullShare} (scs m d : Buf (Elt F) (sLoc d))) ∗ (eLoc d ↦{fullShare} (eis m d : Buf (Elt F) (eLoc d)))
      ∗ oLoc d ↦{fullShare} (f : Buf (Elt F) (oLoc d))) = (bigSep Finset.univ fun c : Fin 2 => resC m d c f : sProp 𝕄) := by
  unfold resC shC
  rw [bigSep_sep', bigSep_sep', ← pointsTo_piecesOf, ← pointsTo_piecesOf,
    ← pointsTo_biUnion Finset.univ (ℓ := oLoc d) (fun c : Fin 2 => oCore c.val) oCore_disjoint, oCore_cover]

/-- A family over the call's subcores, or over its SparseCores, is one over their numbers. -/
theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

/-- A SparseCore deals its payload to its subcores and gathers theirs. -/
theorem vecSplit : (K (F := F)).VecSplit' (P m) 0 := by
  intro d c
  show resC m d (Fin.cast nCore_zero c) (m (oLoc d)) ⊢ |={Set.univ}=> iprop(
      (bigSep Finset.univ fun i : Fin ((K (F := F)).nSub 0) => resT m d (Fin.cast nCore_zero c) (Fin.cast nSub_zero i) (m (oLoc d)))
      ∗ ((bigSep Finset.univ fun i : Fin ((K (F := F)).nSub 0) => resT m d (Fin.cast nCore_zero c) (Fin.cast nSub_zero i) (res m d))
          -∗ resC m d (Fin.cast nCore_zero c) (res m d)))
  rw [bigSep_tasks (fun i => resT m d (Fin.cast nCore_zero c) i (m (oLoc d))), bigSep_tasks (fun i => resT m d (Fin.cast nCore_zero c) i (res m d)),
    ← resC_eq, ← resC_eq]
  iintro H; imodintro
  isplitl [H]; · iexact H
  iintro H; iexact H

end Cert.Proof.EdgeIdeal

end
-- ==== Proof.EdgeIdeal.Main.lean ====
/-
  @main's run: its reshapes, its TensorCore step and its SparseCore call, and the program's run, which ends with the edge scores
  in the result array, the arguments unchanged and every counter at zero.
-/
module

public import proofs.«01_k».proof.Proof.EdgeIdeal.Payload

@[expose] public section

noncomputable section

namespace Cert.Proof.EdgeIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays -/

abbrev r (b : Ref sig .tc) : DevRef τ sig := Proc.devRef .tc b

/-- @main's arrays. -/
abbrev SM : Finset (DevRef τ sig) := {r main_arg0, r main_arg1, r main_arg2, r main_arg3, r main_v0, r main_v1, r main_v2, r main_v3, r main_v4}

/-- @main's three reshapes. -/
abbrev opW : HloOp τ sig (Elt F) := StableHlo.reshape main_arg2 main_v0 (rfl : (.f32 : EltTy) = .f32) shapeCasts_S512x1_S2x256
abbrev opB : HloOp τ sig (Elt F) := StableHlo.reshape main_arg3 main_v1 (rfl : (.f32 : EltTy) = .f32) shapeCasts_S1_S1x1
abbrev opE : HloOp τ sig (Elt F) := StableHlo.reshape main_arg1 main_v3 (rfl : (.i32 : EltTy) = .i32) shapeCasts_S2x160000_S320000

omit [FloatOps F] in
theorem held_SM (d : Dev nD) (W : Valuation τ sig (Elt F)) :
    (held (SparseCore.T d) SM W : sProp 𝕄) = iprop(((SparseCore.T d).loc main_arg0 ↦{fullShare} W (r main_arg0)) ∗ ((SparseCore.T d).loc main_arg1 ↦{fullShare} W (r main_arg1))
      ∗ ((SparseCore.T d).loc main_arg2 ↦{fullShare} W (r main_arg2)) ∗ ((SparseCore.T d).loc main_arg3 ↦{fullShare} W (r main_arg3))
      ∗ ((SparseCore.T d).loc main_v0 ↦{fullShare} W (r main_v0)) ∗ ((SparseCore.T d).loc main_v1 ↦{fullShare} W (r main_v1))
      ∗ (sLoc d ↦{fullShare} W (r main_v2)) ∗ (eLoc d ↦{fullShare} W (r main_v3)) ∗ oLoc d ↦{fullShare} W (r main_v4)) := by
  unfold held SM
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
/-- The TensorCore's unscoped buffers at a valuation are @main's arrays held at it. -/
theorem unscopedBufs_held (d : Dev nD) (W : Valuation τ sig (Elt F)) :
    (unscopedBufs d (fun b => W (r b)) : sProp 𝕄) = held (SparseCore.T d) SM W := by
  rw [held_SM]
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The arrays' contents along @main -/

/-- At the launch; before the TensorCore's step; after it; before the SparseCore call. -/
def V0 (d : Dev nD) : Valuation τ sig (Elt F) := fun b => m (d, b)
def V1 (d : Dev nD) : Valuation τ sig (Elt F) := (opB (F := F)).result ((opW (F := F)).result (V0 m d))
def V2 (d : Dev nD) : Valuation τ sig (Elt F) := Function.update (V1 m d) (r main_v2) (scs m d : (r main_v2).ty.Contents (Elt F))
def V3 (d : Dev nD) : Valuation τ sig (Elt F) := (opE (F := F)).result (V2 m d)

theorem V1_wts (d : Dev nD) : V1 m d (r main_v0) = wts m d := by
  unfold V1
  rw [(opB (F := F)).result_of_not_mem _ (b := r main_v0) (show r main_v0 ∉ ({r main_v1} : Finset (DevRef τ sig)) by decide)]
  exact StableHlo.reshape_result main_arg2 main_v0 _ _ _ _ _
theorem V1_bia (d : Dev nD) : V1 m d (r main_v1) = bia m d := by
  unfold V1
  refine (StableHlo.reshape_result main_arg3 main_v1 _ _ _ _ _).trans ?_
  rw [(opW (F := F)).result_of_not_mem _ (b := r main_arg3) (show r main_arg3 ∉ ({r main_v0} : Finset (DevRef τ sig)) by decide)]
  rfl
theorem V1_of (d : Dev nD) (b : Ref sig .tc) (h0 : r b ∉ (opW (F := F)).writes) (h1 : r b ∉ (opB (F := F)).writes) : V1 m d (r b) = m (d, r b) := by
  unfold V1
  rw [(opB (F := F)).result_of_not_mem _ h1, (opW (F := F)).result_of_not_mem _ h0]; rfl

theorem V3_of (d : Dev nD) (b : Ref sig .tc) (h : r b ∉ (opE (F := F)).writes) (h2 : r b ≠ r main_v2) : V3 m d (r b) = V1 m d (r b) := by
  unfold V3 V2
  rw [(opE (F := F)).result_of_not_mem _ h, Function.update_of_ne h2]
theorem V3_scs (d : Dev nD) : V3 m d (r main_v2) = scs m d := by
  unfold V3 V2
  rw [(opE (F := F)).result_of_not_mem _ (b := r main_v2) (show r main_v2 ∉ ({r main_v3} : Finset (DevRef τ sig)) by decide), Function.update_self]
theorem V3_eis (d : Dev nD) : V3 m d (r main_v3) = eis m d := by
  unfold V3
  refine (StableHlo.reshape_result main_arg1 main_v3 _ _ _ _ _).trans ?_
  unfold V2
  rw [Function.update_of_ne (show r main_arg1 ≠ r main_v2 by decide), V1_of m d main_arg1 (show r main_arg1 ∉ ({r main_v0} : Finset (DevRef τ sig)) by decide) (show r main_arg1 ∉ ({r main_v1} : Finset (DevRef τ sig)) by decide)]
  rfl

/-! ## The launch's ghost state -/

abbrev adm (p : Fin 1) : (pcfgs (F := F) p).Adm := (cfgs p).toPCfg_adm

/-- The cells of the staging pipeline are distinct. -/
theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

omit [FloatOps F] in
/-- The launch's element splits into the handshakes' and the pipeline's. -/
theorem ownU_split (a : UH) (b : UR sig nD τ) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What device `d`'s TensorCore is dealt for its step. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

/-- A family over one number is its one member. -/
theorem bigSep_one (Φ : Fin 1 → sProp 𝕄) : bigSep Finset.univ Φ = Φ 0 := by
  rw [show (Finset.univ : Finset (Fin 1)) = {0} from rfl, bigSep_singleton]

/-- The launch deals every device its step's ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
      ∗ bigSep Finset.univ fun thr : Thread nD τ => bigSep Finset.univ fun q : Fin 1 => (P m).x q thr) := by
  refine (ownU_split _ _).trans ?_
  iintro ⟨HH, HP⟩
  imod (Pipeline.fund_ghost (Pipeline.pin (pcfgs (F := F)) adm) EP phinj) $$ HP with ⟨Hc, Ht⟩
  imodintro
  isplitl [HH]; · iexact HH
  isplitl [Hc Ht]
  · rw [bigSep_sep']
    isplitl [Hc]
    · iapply (Entails.of_eq (bigSep_congr fun d _ => bigSep_one _)) $$ Hc
    · iapply (Entails.of_eq (bigSep_congr fun d _ => bigSep_one _)) $$ Ht
  · rw [show (bigSep Finset.univ fun thr : Thread nD τ => bigSep Finset.univ fun q : Fin 1 => (P m).x q thr)
      = (bigSep (Finset.univ : Finset (Thread nD τ)) fun _ => (bigSep (Finset.univ : Finset (Fin 1)) fun _ => iprop(emp)) : sProp 𝕄) from rfl]
    simp only [bigSep_emp']
    iempintro

/-! ## @main -/

/-- What @main leaves: the four arguments as launched and the result at the edge scores. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ oLoc d ↦{fullShare} (res m d : Buf (Elt F) (oLoc d)))

/-- The TensorCore's step as a record: from the contents `V1` to `V2`. -/
def regM : Pipeline.RegionSeg (pcfgs (F := F)) adm (pdats (fun d b => V1 m d (r b)) adm) none defs₀ 𝒱₀ (K (F := F)).L (K (F := F)).lev 0 :=
  reg (fun d b => V1 m d (r b)) adm (fun d b => V2 m d (r b))
    (fun d => by
      refine (Function.update_self _ _ _).trans ?_
      show scs m d = k0_pay1 (F := F) (V1 m d (r main_v0)) (V1 m d (r main_arg0)) (V1 m d (r main_v1))
      rw [scs, V1_wts, V1_bia, V1_of m d main_arg0 (show r main_arg0 ∉ ({r main_v0} : Finset (DevRef τ sig)) by decide) (show r main_arg0 ∉ ({r main_v1} : Finset (DevRef τ sig)) by decide)])
    (fun d b hb => Function.update_of_ne (fun e => hb (Proc.devRef_injective _ e)) _ _)

omit [FloatOps F] in
theorem unscoped_held (d : Dev nD) : (unscopedBufs d (fun b => m ((SparseCore.T d).loc b)) : sProp 𝕄) = held (SparseCore.T d) SM (V0 m d) :=
  unscopedBufs_held d (V0 m d)

/-- The TensorCore's step in @main: from the arrays at `V1` to the arrays at `V2`, the handshakes' debts kept. -/
theorem step (d : Dev nD) (Q : PUnit → sProp 𝕄) :
    iprop((iprop(boundary (SparseCore.T d : Thread nD τ) ∗ held (SparseCore.T d) SM (V2 m d) ∗ tcOwes d) -∗ Q ⟨⟩)
        ∗ boundary (SparseCore.T d : Thread nD τ) ∗ (held (SparseCore.T d) SM (V1 m d) ∗ tcOwes d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h1 := Pipeline.RegionSeg.wp (pcfgs (F := F)) adm (pdats (fun d b => V1 m d (r b)) adm) none phinj EP defs₀ 𝒱₀
    (K (F := F)).L (K (F := F)).lev (regM m) d none (fun u hu => nomatch hu) .ret Q
  have h2 : wp frame (wpE (D (F := F)) 𝒱 (SparseCore.T d) none) Set.univ (.op (.customCall (Pipeline.entry 0) ()) .ret) Q
      ⊢ wp frame (wpE ((K (F := F)).defs (D (F := F))) 𝒱 (SparseCore.T d) none) Set.univ
          (Prog.lift (.customCall (SparseCore.inner (Pipeline.entry 0)) ())) Q :=
    (K (F := F)).wp_liftProg (D (F := F)) 𝒱 (SparseCore.T d) Set.univ none (.op (.customCall (Pipeline.entry 0) ()) .ret) Q
  rw [show (regM m).pre d = iprop(unscopedBufs d (fun b => V1 m d (r b)) ∗ tcOwes d) from rfl,
    show (regM m).post d = iprop(unscopedBufs d (fun b => V2 m d (r b)) ∗ tcOwes d) from rfl, unscopedBufs_held, unscopedBufs_held] at h1
  have h0 : iprop((iprop(boundary (SparseCore.T d : Thread nD τ) ∗ held (SparseCore.T d) SM (V2 m d) ∗ tcOwes d) -∗ Q ⟨⟩)
        ∗ boundary (SparseCore.T d : Thread nD τ) ∗ (held (SparseCore.T d) SM (V1 m d) ∗ tcOwes d)
        ∗ levAts (K (F := F)).L (K (F := F)).lev ∗ G d)
      ⊢ (iprop((iprop(boundary (SparseCore.T d : Thread nD τ) ∗ held (SparseCore.T d) SM (V2 m d) ∗ tcOwes d)
          -∗ wp frame (wpE (D (F := F)) 𝒱 (SparseCore.T d) none) Set.univ (.ret ⟨⟩) Q)
        ∗ boundary (SparseCore.T d : Thread nD τ) ∗ (held (SparseCore.T d) SM (V1 m d) ∗ tcOwes d)
        ∗ levAts (K (F := F)).L (K (F := F)).lev ∗ G d) : sProp 𝕄) := by
    iintro ⟨Hk, Hb, Hpre, Hlv, HG⟩
    isplitl [Hk]
    · iintro H
      rw [wp_ret]; imodintro
      iapply Hk; iexact H
    isplitl [Hb]; · iexact Hb
    isplitl [Hpre]; · iexact Hpre
    isplitl [Hlv]; · iexact Hlv
    iexact HG
  exact h0.trans (h1.trans h2)

/-- Before the first call a wait's record bounded by level 0 is at no call, and conversely. -/
theorem none_of_below (d : Dev nD) (W : Waits sig (HIx 1)) (h : (K (F := F)).WBelow (SparseCore.T d) W 0) : ∀ p ∈ W, p.2 = none := by
  rintro ⟨g, q⟩ hp
  cases q with
  | none => rfl
  | some q => exact absurd (h _ hp) (Nat.not_le.mpr ((K (F := F)).lev_some_pos _ q))
theorem below_of_none (d : Dev nD) (W : Waits sig (HIx 1)) (h : ∀ p ∈ W, p.2 = none) : (K (F := F)).WBelow (SparseCore.T d) W 0 := by
  intro p hp
  rw [h p hp]; exact le_refl _

/-- Equivalent assertions may be exchanged beside any third. -/
theorem exchange {A B R : sProp 𝕄} (h : A ⊢ B) (h' : B ⊢ A) : ∃ R' : sProp 𝕄, (iprop(A ∗ R) ⊢ iprop(B ∗ R')) ∧ (iprop(B ∗ R') ⊢ iprop(A ∗ R)) :=
  ⟨R, sep_mono_left h, sep_mono_left h'⟩

/-- What the TensorCore holds of the handshakes before the first call: what it owes, apart. -/
theorem tcSt_zero (d : Dev nD) : ∃ R : sProp 𝕄, ((K (F := F)).tcSt EH d 0 ⊢ iprop(tcOwes d ∗ R)) ∧ (iprop(tcOwes d ∗ R) ⊢ (K (F := F)).tcSt EH d 0) := by
  unfold SparseCore.Cfg.tcSt
  refine exchange ?_ ?_
  · iintro ⟨%W, %hW, HO⟩
    iexists W; isplitr
    · ipureintro; exact none_of_below d W hW
    · iexact HO
  · iintro ⟨%W, %hW, HO⟩
    iexists W; isplitr
    · ipureintro; exact below_of_none d W hW
    · iexact HO

/-- The two SparseCores' payloads, out and back. -/
theorem st0_eq (d : Dev nD) : (bigSep Finset.univ fun c : Fin ((K (F := F)).nCore 0) => (P m).st 0 d c) = bigSep Finset.univ fun c : Fin 2 => resC m d c (m (oLoc d)) :=
  bigSep_cores fun c => resC m d c (m (oLoc d))
theorem dn0_eq (d : Dev nD) : (bigSep Finset.univ fun c : Fin ((K (F := F)).nCore 0) => (P m).dn 0 d c) = bigSep Finset.univ fun c : Fin 2 => resC m d c (res m d) :=
  bigSep_cores fun c => resC m d c (res m d)

/-- The arrays before the SparseCore call. -/
theorem held_V3 (d : Dev nD) :
    iprop(((SparseCore.T d).loc main_arg0 ↦{fullShare} V3 m d (r main_arg0)) ∗ ((SparseCore.T d).loc main_arg1 ↦{fullShare} V3 m d (r main_arg1))
      ∗ ((SparseCore.T d).loc main_arg2 ↦{fullShare} V3 m d (r main_arg2)) ∗ ((SparseCore.T d).loc main_arg3 ↦{fullShare} V3 m d (r main_arg3))
      ∗ ((SparseCore.T d).loc main_v0 ↦{fullShare} V3 m d (r main_v0)) ∗ ((SparseCore.T d).loc main_v1 ↦{fullShare} V3 m d (r main_v1))
      ∗ (sLoc d ↦{fullShare} V3 m d (r main_v2)) ∗ (eLoc d ↦{fullShare} V3 m d (r main_v3)) ∗ oLoc d ↦{fullShare} V3 m d (r main_v4))
    = (iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_v0 ↦{fullShare} V3 m d (r main_v0)) ∗ ((SparseCore.T d).loc main_v1 ↦{fullShare} V3 m d (r main_v1))
      ∗ (sLoc d ↦{fullShare} (scs m d : Buf (Elt F) (sLoc d))) ∗ (eLoc d ↦{fullShare} (eis m d : Buf (Elt F) (eLoc d))) ∗ oLoc d ↦{fullShare} m (oLoc d)) : sProp 𝕄) := by
  have h : ∀ b : Ref sig .tc, r b ∉ ({r main_v3} : Finset (DevRef τ sig)) → r b ∉ ({r main_v0} : Finset (DevRef τ sig)) → r b ∉ ({r main_v1} : Finset (DevRef τ sig))
      → r b ≠ r main_v2 → V3 m d (r b) = m (d, r b) := fun b h3 h0 h1 h2 => (V3_of m d b h3 h2).trans (V1_of m d b h0 h1)
  rw [V3_scs, V3_eis, h main_arg0 (by decide) (by decide) (by decide) (by decide), h main_arg1 (by decide) (by decide) (by decide) (by decide),
    h main_arg2 (by decide) (by decide) (by decide) (by decide), h main_arg3 (by decide) (by decide) (by decide) (by decide),
    h main_v4 (by decide) (by decide) (by decide) (by decide)]

/-- @main on device `d`'s TensorCore: from the launch's contents to the four arguments kept and the result at the edge scores. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opW) (S := SM) (show ({r main_arg2, r main_v0} : Finset (DevRef τ sig)) ⊆ SM by decide) (V := V0 m d)) $$ [Hb Hheld]
  · isplitl [Hb] <;> iassumption
  iintro ⟨Hb, Hheld⟩
  rw [wp_ret]; imodintro
  iapply (wp_hlo_within 𝒱 (SparseCore.T d) none Set.univ (op := opB) (S := SM) (show ({r main_arg3, r main_v1} : Finset (DevRef τ sig)) ⊆ SM by decide) (V := (opW (F := F)).result (V0 m d))) $$ [Hb Hheld]
  · isplitl [Hb] <;> iassumption
  iintro ⟨Hb, Hheld⟩
  rw [wp_ret]; imodintro
  obtain ⟨R, hR, hR'⟩ := tcSt_zero (F := F) d
  ihave Hst := hR $$ Hst
  icases Hst with ⟨HO, HR⟩
  ihave Hlv := (SparseCore.Cfg.ctx_levAts (K := K (F := F)) (EH := EH) (P := P m) κ) $$ Hctx
  iapply (step m d _)
  isplitr [Hb Hheld HO Hlv HG]
  rotate_left
  · isplitl [Hb]; · iexact Hb
    isplitl [Hheld HO]
    · isplitl [Hheld]; · iexact Hheld
      iexact HO
    isplitl [Hlv]; · iexact Hlv
    iexact HG
  iintro ⟨Hb, Hheld, HO⟩
  ihave Hst := hR' $$ [HO HR]
  · isplitl [HO] <;> iassumption
  iapply (wp_hlo_within 𝒱 (SparseCore.T d) none Set.univ (op := opE) (S := SM) (show ({r main_arg1, r main_v3} : Finset (DevRef τ sig)) ⊆ SM by decide) (V := V2 m d)) $$ [Hb Hheld]
  · isplitl [Hb] <;> iassumption
  iintro ⟨Hb, Hheld⟩
  rw [wp_ret]; imodintro
  ihave Hh := (Entails.of_eq (show held (SparseCore.T d) SM ((opE (F := F)).result (V2 m d)) = _ from (held_SM (F := F) d (V3 m d)).trans (held_V3 m d))) $$ Hheld
  icases Hh with ⟨H0, H1, H2, H3, -, -, Hs, He, Ho⟩
  iapply ((K (F := F)).wp_run (D (F := F)) 𝒱 (EH := EH) (P := P m) κ d 0) $$ [Hst Hs He Ho Hb Hts H0 H1 H2 H3]
  isplitr; · iexact Hctx
  isplitl [Hst]; · iexact Hst
  isplitl [Hs He Ho]
  · rw [st0_eq, ← whole_eq]
    isplitl [Hs]; · iexact Hs
    isplitl [He]; · iexact He
    iexact Ho
  iintro ⟨Hst, Hdn⟩
  ihave Hdn := (Entails.of_eq ((dn0_eq m d).trans (whole_eq m d (res m d)).symm)) $$ Hdn
  icases Hdn with ⟨-, -, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

/-! ## The program's run -/

/-- What a memory ends with on device `d`: the arguments as launched and the result at the edge scores. -/
def Ends (d : Dev nD) (s : (ℓ : Loc nD τ sig) → Buf (Elt F) ℓ) : Prop :=
  s ((SparseCore.T d).loc main_arg0) = m ((SparseCore.T d).loc main_arg0) ∧ s ((SparseCore.T d).loc main_arg1) = m ((SparseCore.T d).loc main_arg1)
    ∧ s ((SparseCore.T d).loc main_arg2) = m ((SparseCore.T d).loc main_arg2) ∧ s ((SparseCore.T d).loc main_arg3) = m ((SparseCore.T d).loc main_arg3)
    ∧ s (oLoc d) = (res m d : Buf (Elt F) (oLoc d))

theorem hfin (d : Dev nD) (s' : Phys nD τ sig (Elt F)) : iprop(FIN m d ∗ SI s') ⊢ (⌜Ends m d s'.mem.mem⌝ : sProp 𝕄) := by
  iintro ⟨⟨H0, H1, H2, H3, Ho⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := oLoc d) (I := Finset.univ) (q := fullShare) (f := (res m d : Buf (Elt F) (oLoc d)))) $$ [HSI Ho]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The program runs to its end from any memory: on every device the arguments are as launched, the result is the edge scores, and
    every counter is zero. -/
theorem run_main [∀ e, Nonempty (Elt F e)] :
    θ_run (Cert.KernelIdeal.defs (F := F)) (Cert.KernelIdeal.threads (F := F)) ⟨m, fun _ => 0, ρ⟩ fun x => (∀ d, Ends m d x.2.mem) ∧ x.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fun d s' => Ends m d s'.mem.mem) (hfin m)
    (fun x => (∀ d, Ends m d x.2.mem) ∧ x.2.sem = fun _ => 0) (fun _ h hz => ⟨h, hz⟩)

end Cert.Proof.EdgeIdeal

end
-- ==== Proof.EdgeValue.Take.lean ====
/-
  The reference's row lookup `jnp.take(h, idx, axis=0)` read at one element. As printed it moves a negative index up by the
  number of rows, looks the row up, and then replaces by a NaN every row whose index was outside the table. Where every index
  is a row number the lookup is the row itself.
-/
module

public import proofs.«01_k».proof.Defs
public import proofs.«01_k».proof.Proof.Gen.ReferenceIdeal
public import Idealize.ShloMosaic.Lib.ReduceAll
public import Idealize.ShloMosaic.Lib.Routing.Ops
public import Idealize.ShloMosaic.Lib.Pipeline.Value

@[expose] public section

noncomputable section

namespace Cert.Proof.EdgeValue

open Cert.ReferenceIdeal Cert.ReferenceIdeal.Gen Cert.ReferenceIdeal.Facts
open Idealize.ShloMosaic Idealize.ShloMosaic.ValueIdx

/-- The index column of the lookup: a negative index counts from the end of the table. -/
def wrapped (idx : IVec S160000 32) : IVec S160000x1 32 :=
  broadcastInDim S160000x1 ![0] bcast_S160000_S160000x1_0
    (select (cmpi .slt idx (broadcastInDim S160000 ![] bcast_S_S160000 (constantI S_ 32 0#32)))
      (addi idx (broadcastInDim S160000 ![] bcast_S_S160000 (constantI S_ 32 10000#32))) idx)

/-- The rows whose wrapped index lies in the table. -/
def inside (idx : IVec S160000 32) : IVec S160000 1 :=
  Host.reduce IntOp.andi
    (andi (cmpi .sge (wrapped idx) (broadcastInDim S160000x1 ![] bcast_S_S160000x1 (constantI S_ 32 0#32)))
      (cmpi .sle (wrapped idx) (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-- The lookup of the rows of `h` at `idx`, as the reference prints it. -/
def rows {F : FTy → Type} [FloatOps F] (h : FVec F S10000x256 .f32) (idx : IVec S160000 32) : FVec F S160000x256 .f32 :=
  select (broadcastInDim S160000x256 ![0] bcast_S160000_S160000x256_0 (inside idx))
    (Host.gather gather_S10000x256_S160000x1_S160000x256_1_0_n_n_0_1_1256 h (wrapped idx))
    (broadcastInDim S160000x256 ![] bcast_S_S160000x256 (constant S_ .f32 0x7FC00000#32))

/-- A word below 10000 is not negative as a signed word. -/
theorem slt_zero {v : BitVec 32} (h : v.toNat < 10000) : IntOp.cmpi .slt v 0#32 = 0#1 := by
  have e : v.slt 0#32 = false := by
    simp only [BitVec.slt_eq_decide, decide_eq_false_iff_not, BitVec.toInt_eq_toNat_cond, BitVec.toNat_ofNat, Nat.reducePow, Nat.reduceMod]
    omega
  show BitVec.ofBool (v.slt 0#32) = 0#1
  rw [e]; rfl

/-- A word below 10000 passes the reference's test of the table's bounds. -/
theorem bounds_one {v : BitVec 32} (h : v.toNat < 10000) : IntOp.andi (IntOp.cmpi .sge v 0#32) (IntOp.cmpi .sle v 9999#32) = 1#1 := by
  have e0 : (0#32).sle v = true := by
    simp only [BitVec.sle_eq_decide, decide_eq_true_eq, BitVec.toInt_eq_toNat_cond, BitVec.toNat_ofNat, Nat.reducePow, Nat.reduceMod]
    omega
  have e1 : v.sle 9999#32 = true := by
    simp only [BitVec.sle_eq_decide, decide_eq_true_eq, BitVec.toInt_eq_toNat_cond, BitVec.toNat_ofNat, Nat.reducePow, Nat.reduceMod]
    omega
  show IntOp.andi (BitVec.ofBool ((0#32).sle v)) (BitVec.ofBool (v.sle 9999#32)) = 1#1
  rw [e0, e1]; rfl

/-- An index that is a row number is not wrapped. -/
theorem wrapped_apply {idx : IVec S160000 32} (h : ∀ i, (idx i).toNat < 10000) (c : Fin 160000) (z : Fin 1) :
    wrapped idx (ix2 c z) = idx (ix1 c) := by
  unfold wrapped
  rw [broadcastInDim_apply _ _ _ _ (ix1 c) (by intro (a : Fin 1); rw [Subsingleton.elim a 0]; rfl)]
  show Scalar.select (IntOp.cmpi .slt (idx (ix1 c)) 0#32) _ (idx (ix1 c)) = _
  rw [slt_zero (h _)]; rfl

/-- Where every index is a row number, every row lies in the table. -/
theorem inside_apply {idx : IVec S160000 32} (h : ∀ i, (idx i).toNat < 10000) (j : S160000.Idx) : inside idx j = 1#1 := by
  have key (c : Fin 160000) (z : Fin 1) :
      IntOp.andi (IntOp.cmpi .sge (wrapped idx (ix2 c z)) 0#32) (IntOp.cmpi .sle (wrapped idx (ix2 c z)) 9999#32) = 1#1 := by
    rw [wrapped_apply h]
    exact bounds_one (h _)
  unfold inside
  refine Host.reduce_andi_one _ _ _ _ _ rfl fun i => ?_
  rw [eq_ix2 i]
  exact key _ _

/-- Where every index is a row number, row `c` of the lookup is that row of the table. -/
theorem rows_apply {F : FTy → Type} [FloatOps F] (x : FVec F S10000x256 .f32) {idx : IVec S160000 32} (h : ∀ i, (idx i).toNat < 10000)
    (c : Fin 160000) (y : Fin 256) : rows x idx (ix2 c y) = x (ix2 ⟨(idx (ix1 c)).toNat, h _⟩ y) := by
  have e : broadcastInDim S160000x256 ![0] bcast_S160000_S160000x256_0 (inside idx) (ix2 c y) = 1#1 := by
    rw [broadcastInDim_apply _ _ _ _ (ix1 c) (by intro (a : Fin 1); rw [Subsingleton.elim a 0]; rfl)]
    exact inside_apply h _
  unfold rows
  show Scalar.select (broadcastInDim S160000x256 ![0] bcast_S160000_S160000x256_0 (inside idx) (ix2 c y)) _ _ = _
  rw [e]
  show Host.gather _ x (wrapped idx) (ix2 c y) = _
  refine Routing.gather_row _ rfl rfl rfl rfl rfl x (wrapped idx) c y ⟨(idx (ix1 c)).toNat, h _⟩ ?_ (by decide)
  rw [wrapped_apply h]
  apply BitVec.eq_of_toNat_eq
  rw [BitVec.toNat_ofNat, Nat.mod_eq_of_lt (lt_trans (h _) (by decide))]

end Cert.Proof.EdgeValue

end
-- ==== Proof.EdgeValue.Dots.lean ====
/-
  The two programs' matrix products at the ideal values, each read at one element as a sum of products: the kernel's product of
  the two halves of the weights with all node features, and the reference's product of the joined edge features with the weights.
-/
module

public import proofs.«01_k».proof.Defs
public import proofs.«01_k».proof.Proof.Gen.ReferenceIdeal
public import proofs.«01_k».proof.Proof.Gen.KernelIdeal
public import Idealize.ShloMosaic.Lib.ValueIdx
public import Idealize.ShloMosaic.PureOps.Ideal.Laws

@[expose] public section

noncomputable section

namespace Cert.Proof.EdgeValue

open Idealize.ShloMosaic Idealize.ShloMosaic.ValueIdx

/-- Entry `(k, n)` of the kernel's product: row `k` of the left operand against row `n` of the right one. -/
theorem matmul_rows (A : FVec Ideal ⟨2, ![2, 256]⟩ .f32) (B : FVec Ideal ⟨2, ![10000, 256]⟩ .f32) (k : Fin 2) (n : Fin 10000) :
    matmul Cert.KernelIdeal.dot_S2x256_S10000x256_S2x10000_1_1_0_0_n_n none A B (constant Cert.KernelIdeal.S2x10000 .f32 0x00000000#32) (ix2 k n)
      = ∑ j : Fin 256, A (ix2 k j) * B (ix2 n j) := by
  show FloatOps.matmul _ none A B _ (ix2 k n) = _
  rw [Ideal.matmul_constant_zero_apply, ← Equiv.sum_comp (contrEquiv1 Cert.KernelIdeal.dot_S2x256_S10000x256_S2x10000_1_1_0_0_n_n 256 rfl rfl).symm]
  refine Finset.sum_congr rfl fun j _ => ?_
  have c := contrEquiv1_symm_val Cert.KernelIdeal.dot_S2x256_S10000x256_S2x10000_1_1_0_0_n_n 256 rfl rfl j
  have l : Cert.KernelIdeal.dot_S2x256_S10000x256_S2x10000_1_1_0_0_n_n.lhsIdx (ix2 k n) ((contrEquiv1 _ 256 rfl rfl).symm j) = ix2 k j := by
    funext ax; apply Fin.ext
    match ax with
    | ⟨0, _⟩ => simp [DotDims.lhsIdx, Cert.KernelIdeal.dot_S2x256_S10000x256_S2x10000_1_1_0_0_n_n]; rfl
    | ⟨1, _⟩ => simp [DotDims.lhsIdx, Cert.KernelIdeal.dot_S2x256_S10000x256_S2x10000_1_1_0_0_n_n]; exact c
  have r : Cert.KernelIdeal.dot_S2x256_S10000x256_S2x10000_1_1_0_0_n_n.rhsIdx (ix2 k n) ((contrEquiv1 _ 256 rfl rfl).symm j) = ix2 n j := by
    funext ax; apply Fin.ext
    match ax with
    | ⟨0, _⟩ => simp [DotDims.rhsIdx, Cert.KernelIdeal.dot_S2x256_S10000x256_S2x10000_1_1_0_0_n_n]; rfl
    | ⟨1, _⟩ => simp [DotDims.rhsIdx, Cert.KernelIdeal.dot_S2x256_S10000x256_S2x10000_1_1_0_0_n_n]; exact c
  rw [l, r]

/-- Entry `(c, 0)` of the reference's product: row `c` of the joined features against the weights' one column. -/
theorem dot_rows (A : FVec Ideal ⟨2, ![160000, 512]⟩ .f32) (B : FVec Ideal ⟨2, ![512, 1]⟩ .f32) (c : Fin 160000) (z : Fin 1) :
    Host.dotGeneral Cert.ReferenceIdeal.dot_S160000x512_S512x1_S160000x1_1_0_0_1_n_n none A B (ix2 c z)
      = ∑ j : Fin 512, A (ix2 c j) * B (ix2 j z) := by
  show FloatOps.dotGeneral _ none _ A B (ix2 c z) = _
  rw [Ideal.dotGeneral_apply, ← Equiv.sum_comp (contrEquiv1 Cert.ReferenceIdeal.dot_S160000x512_S512x1_S160000x1_1_0_0_1_n_n 512 rfl rfl).symm]
  refine Finset.sum_congr rfl fun j _ => ?_
  have e := contrEquiv1_symm_val Cert.ReferenceIdeal.dot_S160000x512_S512x1_S160000x1_1_0_0_1_n_n 512 rfl rfl j
  have l : Cert.ReferenceIdeal.dot_S160000x512_S512x1_S160000x1_1_0_0_1_n_n.lhsIdx (ix2 c z) ((contrEquiv1 _ 512 rfl rfl).symm j) = ix2 c j := by
    funext ax; apply Fin.ext
    match ax with
    | ⟨0, _⟩ => simp [DotDims.lhsIdx, Cert.ReferenceIdeal.dot_S160000x512_S512x1_S160000x1_1_0_0_1_n_n]; rfl
    | ⟨1, _⟩ => simp [DotDims.lhsIdx, Cert.ReferenceIdeal.dot_S160000x512_S512x1_S160000x1_1_0_0_1_n_n]; exact e
  have r : Cert.ReferenceIdeal.dot_S160000x512_S512x1_S160000x1_1_0_0_1_n_n.rhsIdx (ix2 c z) ((contrEquiv1 _ 512 rfl rfl).symm j) = ix2 j z := by
    funext ax; apply Fin.ext
    match ax with
    | ⟨0, _⟩ => simp [DotDims.rhsIdx, Cert.ReferenceIdeal.dot_S160000x512_S512x1_S160000x1_1_0_0_1_n_n]; exact e
    | ⟨1, _⟩ => simp [DotDims.rhsIdx, Cert.ReferenceIdeal.dot_S160000x512_S512x1_S160000x1_1_0_0_1_n_n]
  rw [l, r]

end Cert.Proof.EdgeValue

end
-- ==== Proof.EdgeValue.RefValue.lean ====
/-
  The reference's result at the ideal values, read at one edge: `1 / (1 + exp (-z))`, where `z` is the features of the edge's
  source against the first half of the weights, plus the features of its destination against the second half, plus the bias.
  It holds where every entry of the edge list is a row number.
-/
module

public import proofs.«01_k».proof.Proof.Gen.ReferenceIdeal.Run
public import proofs.«01_k».proof.Proof.EdgeValue.Take
public import proofs.«01_k».proof.Proof.EdgeValue.Dots
public import Idealize.ShloMosaic.Lib.Pointwise.Sums
public import Idealize.ShloMosaic.Lib.Pointwise.SelectCore

@[expose] public section

noncomputable section

namespace Cert.Proof.EdgeValue

open Cert.ReferenceIdeal Cert.ReferenceIdeal.Gen Cert.ReferenceIdeal.Facts
open Idealize.ShloMosaic hiding ix1 ix2 eq_ix1 eq_ix2
open Idealize.ShloMosaic.ValueIdx

/-- The logistic function as both programs compute it. -/
def logistic (z : EReal) : EReal := Ideal.div (Ideal.ofBits .f32 0x3F800000#32) (Ideal.ofBits .f32 0x3F800000#32 + Ideal.exp (-z))

/-- The features of node `n` against entries `o`, …, `o + 255` of the weights. -/
def against (h : FVec Ideal S10000x256 .f32) (w : FVec Ideal S512x1 .f32) (n : Fin 10000) (o : Fin 257) : EReal :=
  ∑ j : Fin 256, h (ix2 n j) * w (ix2 ⟨o.val + j.val, by omega⟩ 0)

section Printed
variable {F : FTy → Type} [FloatOps F]

/-- Row `0` of the edge list: the sources. -/
def sources (ei : IVec S2x160000 32) : IVec S160000 32 :=
  shapeCast S160000 (extractStridedSlice S1x160000 ![0, 0] ei slices_S2x160000_S1x160000_0_0) shapeCasts_S1x160000_S160000

/-- Row `1` of the edge list: the destinations. -/
def targets (ei : IVec S2x160000 32) : IVec S160000 32 :=
  shapeCast S160000 (extractStridedSlice S1x160000 ![1, 0] ei slices_S2x160000_S1x160000_1_0) shapeCasts_S1x160000_S160000

/-- The features of both ends of each edge, side by side. -/
def joined (h : FVec F S10000x256 .f32) (ei : IVec S2x160000 32) : FVec F S160000x512 .f32 :=
  concatenate S160000x512 1 [⟨S160000x256, rows h (sources ei)⟩, ⟨S160000x256, rows h (targets ei)⟩]
    concatenates_S160000x256_S160000x256_S160000x512_d1

/-- The linear layer's output. -/
def layer (h : FVec F S10000x256 .f32) (ei : IVec S2x160000 32) (w : FVec F S512x1 .f32) (b : FVec F S1 .f32) : FVec F S160000x1 .f32 :=
  addf (Host.dotGeneral dot_S160000x512_S512x1_S160000x1_1_0_0_1_n_n none (joined h ei) w)
    (broadcastInDim S160000x1 ![0, 1] bcast_S1x1_S160000x1_0_1 (broadcastInDim S1x1 ![1] bcast_S1_S1x1_1 b))

/-- One over one plus the exponential of the negation, as the reference prints it. -/
def squash (x : FVec F S160000x1 .f32) : FVec F S160000x1 .f32 :=
  Host.divf (broadcastInDim S160000x1 ![] bcast_S_S160000x1 (constant S_ .f32 0x3F800000#32))
    (addf (broadcastInDim S160000x1 ![] bcast_S_S160000x1 (constant S_ .f32 0x3F800000#32)) (Host.exp (Host.negf x)))

/-- The reference's result as a function of its arguments. -/
def scores (h : FVec F S10000x256 .f32) (ei : IVec S2x160000 32) (w : FVec F S512x1 .f32) (b : FVec F S1 .f32) : FVec F S160000 .f32 :=
  shapeCast S160000 (squash (layer h ei w b)) shapeCasts_S160000x1_S160000

/-- The reference's run leaves `scores` of its arguments. -/
theorem res_eq (m : (ℓ : Loc nD τ sig) → Buf (Elt F) ℓ) (c : Dev nD) :
    Value.res_main_v17 m c = scores (m ((c.tc : Thread nD τ).loc main_arg0)) (m ((c.tc : Thread nD τ).loc main_arg1))
      (m ((c.tc : Thread nD τ).loc main_arg2)) (m ((c.tc : Thread nD τ).loc main_arg3)) := rfl

end Printed

/-- The reference's last lines at one element are the logistic function. -/
theorem squash_apply (x : FVec Ideal S160000x1 .f32) (j : S160000x1.Idx) : squash x j = logistic (x j) := rfl

/-- Entry `e` of the sources is entry `(0, e)` of the edge list. -/
theorem sources_apply (ei : IVec S2x160000 32) (e : Fin 160000) : sources ei (ix1 e) = ei (ix2 0 e) := by
  unfold sources
  rw [shapeCast_apply _ _ _ (ix2 0 e) (by rw [Shape.rowMajor_val_two, Shape.rowMajor_val_one]; simp)]
  exact extractStridedSlice_apply _ _ _ _ _ fun a => by
    match a with
    | ⟨0, _⟩ => rfl
    | ⟨1, _⟩ => exact (Nat.zero_add _).symm

/-- Entry `e` of the destinations is entry `(1, e)` of the edge list. -/
theorem targets_apply (ei : IVec S2x160000 32) (e : Fin 160000) : targets ei (ix1 e) = ei (ix2 1 e) := by
  unfold targets
  rw [shapeCast_apply _ _ _ (ix2 0 e) (by rw [Shape.rowMajor_val_two, Shape.rowMajor_val_one]; simp)]
  exact extractStridedSlice_apply _ _ _ _ _ fun a => by
    match a with
    | ⟨0, _⟩ => rfl
    | ⟨1, _⟩ => exact (Nat.zero_add _).symm

variable (h : FVec Ideal S10000x256 .f32) {ei : IVec S2x160000 32} (w : FVec Ideal S512x1 .f32) (b : FVec Ideal S1 .f32)
  (hr : ∀ i, (ei i).toNat < 10000)
include hr

/-- The sources are row numbers. -/
theorem sources_lt (i : S160000.Idx) : (sources ei i).toNat < 10000 := by
  have k (e : Fin 160000) : (sources ei (ix1 e)).toNat < 10000 := by rw [sources_apply]; exact hr _
  rw [eq_ix1 i]; exact k _

/-- The destinations are row numbers. -/
theorem targets_lt (i : S160000.Idx) : (targets ei i).toNat < 10000 := by
  have k (e : Fin 160000) : (targets ei (ix1 e)).toNat < 10000 := by rw [targets_apply]; exact hr _
  rw [eq_ix1 i]; exact k _

/-- The first half of an edge's joined features is its source's. -/
theorem joined_left (e : Fin 160000) (j : Fin 256) :
    joined h ei (ix2 e ⟨j.val, by omega⟩) = h (ix2 ⟨(ei (ix2 0 e)).toNat, hr _⟩ j) := by
  have e1 : joined h ei (ix2 e ⟨j.val, by omega⟩) = rows h (sources ei) (ix2 e j) :=
    concatenate_pair_apply_left (t := S160000x512) (s₁ := S160000x256) (s₂ := S160000x256) 1 (rows h (sources ei)) (rows h (targets ei))
      concatenates_S160000x256_S160000x256_S160000x512_d1 (ix2 e ⟨j.val, by omega⟩) rfl (ix2 e j) fun a => by
        match a with
        | ⟨0, _⟩ => rfl
        | ⟨1, _⟩ => rfl
  rw [e1, rows_apply h (sources_lt hr)]
  exact congrArg (fun k => h (ix2 k j)) (Fin.ext (congrArg BitVec.toNat (sources_apply ei e)))

/-- The second half of an edge's joined features is its destination's. -/
theorem joined_right (e : Fin 160000) (j : Fin 256) :
    joined h ei (ix2 e ⟨256 + j.val, by omega⟩) = h (ix2 ⟨(ei (ix2 1 e)).toNat, hr _⟩ j) := by
  have e1 : joined h ei (ix2 e ⟨256 + j.val, by omega⟩) = rows h (targets ei) (ix2 e j) :=
    concatenate_pair_apply_right (t := S160000x512) (s₁ := S160000x256) (s₂ := S160000x256) 1 (rows h (sources ei)) (rows h (targets ei))
      concatenates_S160000x256_S160000x256_S160000x512_d1 (ix2 e ⟨256 + j.val, by omega⟩) rfl rfl (ix2 e j) (fun a ha => by
        match a, ha with
        | ⟨0, _⟩, _ => rfl
        | ⟨1, _⟩, ha => exact absurd rfl ha) (Nat.add_comm _ _)
  rw [e1, rows_apply h (targets_lt hr)]
  exact congrArg (fun k => h (ix2 k j)) (Fin.ext (congrArg BitVec.toNat (targets_apply ei e)))

/-- The linear layer's output at one edge. -/
theorem layer_apply (e : Fin 160000) (z : Fin 1) :
    layer h ei w b (ix2 e z) = against h w ⟨(ei (ix2 0 e)).toNat, hr _⟩ 0 + against h w ⟨(ei (ix2 1 e)).toNat, hr _⟩ 256 + b (ix1 0) := by
  have hb : broadcastInDim S160000x1 ![0, 1] bcast_S1x1_S160000x1_0_1 (broadcastInDim S1x1 ![1] bcast_S1_S1x1_1 b) (ix2 e z) = b (ix1 0) := by
    rw [broadcastInDim_apply _ _ _ _ (ix2 0 0) (fun a => by match a with | ⟨0, _⟩ => rfl | ⟨1, _⟩ => rfl)]
    exact broadcastInDim_apply _ _ _ _ (ix1 0) (fun a => by match a with | ⟨0, _⟩ => rfl)
  have hd : Host.dotGeneral dot_S160000x512_S512x1_S160000x1_1_0_0_1_n_n none (joined h ei) w (ix2 e z)
      = against h w ⟨(ei (ix2 0 e)).toNat, hr _⟩ 0 + against h w ⟨(ei (ix2 1 e)).toNat, hr _⟩ 256 := by
    rw [dot_rows, Fin.sum_univ_two_halves 256 256 rfl]
    refine congrArg₂ (fun x y : EReal => x + y) (Finset.sum_congr rfl fun j _ => ?_) (Finset.sum_congr rfl fun j _ => ?_)
    · rw [joined_left h hr e j, Subsingleton.elim z 0]
      exact congrArg (fun k => h _ * w (ix2 k 0)) (Fin.ext (Nat.zero_add _).symm)
    · rw [joined_right h hr e j, Subsingleton.elim z 0]
      rfl
  show Host.dotGeneral dot_S160000x512_S512x1_S160000x1_1_0_0_1_n_n none (joined h ei) w (ix2 e z) + _ = _
  rw [hd, hb]

/-- The reference's result at one edge. -/
theorem scores_apply (e : Fin 160000) :
    scores h ei w b (ix1 e) = logistic (against h w ⟨(ei (ix2 0 e)).toNat, hr _⟩ 0 + against h w ⟨(ei (ix2 1 e)).toNat, hr _⟩ 256 + b (ix1 0)) := by
  unfold scores
  rw [shapeCast_apply _ _ _ (ix2 e 0) (by rw [Shape.rowMajor_val_two, Shape.rowMajor_val_one]; simp)]
  rw [squash_apply, layer_apply h w b hr]

end Cert.Proof.EdgeValue

end
-- ==== Proof.EdgeValue.KerValue.lean ====
/-
  The kernel's result at the ideal values, read at one edge, and its equality with the reference's. The kernel projects each node
  once against each half of the weights and adds half the bias to both projections; an edge's score is the logistic function of
  the sum of two projections.
-/
module

public import proofs.«01_k».proof.Proof.EdgeIdeal.Main
public import proofs.«01_k».proof.Proof.EdgeValue.RefValue
public import proofs.«01_k».proof.Proof.Gen.Pre_in_range
public import Idealize.ShloMosaic.Lib.ReduceAll

@[expose] public section

noncomputable section

namespace Cert.Proof.EdgeValue

open Cert.KernelIdeal Cert.KernelIdeal.Gen Cert.Proof.EdgeIdeal
open Idealize.ShloMosaic hiding ix1 ix2 eq_ix1 eq_ix2
open Idealize.ShloMosaic.ValueIdx

/-! ## The bias and the signs -/

/-- The literal 0.5. -/
theorem half_eq : Ideal.ofBits .f32 0x3F000000#32 = (((1 / 2 : ℝ)) : EReal) := by
  simp [Ideal.ofBits, Ideal.ieee, -EReal.coe_mul]
  norm_num

/-- Half of an extended real, twice, is that extended real. -/
theorem half_add_half (b : EReal) : Ideal.ofBits .f32 0x3F000000#32 * b + Ideal.ofBits .f32 0x3F000000#32 * b = b := by
  rw [half_eq]
  induction b with
  | bot => rw [EReal.coe_mul_bot_of_pos (by norm_num)]; rfl
  | top => rw [EReal.coe_mul_top_of_pos (by norm_num)]; rfl
  | coe r => rw [← EReal.coe_mul, ← EReal.coe_add]; congr 1; ring

/-- The kernel's score of an edge is the logistic function of the sum. -/
theorem edge_eq (a b : EReal) : edge (F := Ideal) a b = logistic (a + b) := by
  show Ideal.div _ (_ + Ideal.exp (Ideal.ofBits .f32 0x00000000#32 - (a + b))) = _
  rw [Ideal.ofBits_zero_f32, zero_sub]
  rfl

/-! ## The kernel's values at an element -/

/-- The multi-indices of the two modules are the same. -/
theorem at1_eq {n : ℕ} (i : Fin n) : at1 i = ix1 i := by
  funext (a : Fin 1); rw [Subsingleton.elim a 0]; rfl
/-- The same at rank two. -/
theorem at2_eq {n k : ℕ} (i : Fin n) (j : Fin k) : at2 i j = ix2 i j := by
  funext (a : Fin 2); match a with | 0 => rfl | 1 => rfl

section Payload
variable (h : FVec Ideal S10000x256 .f32) (w : FVec Ideal S512x1 .f32) (b : FVec Ideal S1 .f32) (ei : IVec S2x160000 32)

/-- Row `k` of the kernel's weights is the weights' half from `256 * k`. -/
theorem weights_apply (k : Fin 2) (j : Fin 256) :
    shapeCast S2x256 w shapeCasts_S512x1_S2x256 (ix2 k j) = w (ix2 ⟨256 * k.val + j.val, by omega⟩ 0) :=
  shapeCast_apply _ _ _ _ (by
    rw [Shape.rowMajor_val_two, Shape.rowMajor_val_two]
    show (256 * k.val + j.val) * 1 + 0 = k.val * 256 + j.val
    omega)

/-- A node's projection: its features against one half of the weights, and half the bias. -/
theorem proj_apply (k : Fin 2) (n : Fin 10000) :
    k0_pay1 (F := Ideal) (shapeCast S2x256 w shapeCasts_S512x1_S2x256) h (shapeCast S1x1 b shapeCasts_S1_S1x1) (ix2 k n)
      = against h w n ⟨256 * k.val, by omega⟩ + Ideal.ofBits .f32 0x3F000000#32 * b (ix1 0) := by
  have e1 (v : FVec Ideal S2x256 .f32) : shapeCast S2x256 v shapeCasts_S2x256_S2x256 = v :=
    funext fun i => shapeCast_apply _ _ _ _ rfl
  have hm : matmul dot_S2x256_S10000x256_S2x10000_1_1_0_0_n_n none
      (shapeCast S2x256 (shapeCast S2x256 w shapeCasts_S512x1_S2x256) shapeCasts_S2x256_S2x256) h (constant S2x10000 .f32 0x00000000#32) (ix2 k n)
      = against h w n ⟨256 * k.val, by omega⟩ := by
    rw [e1, matmul_rows]
    refine Finset.sum_congr rfl fun j _ => ?_
    rw [weights_apply, mul_comm]
  have hb (v : FVec Ideal S1x1 .f32) : broadcastTo S2x10000 v broadcasts_S1x1_S2x10000 (ix2 k n) = v (ix2 0 0) :=
    broadcastTo_apply _ _ _ _ fun a => by match a with | ⟨0, _⟩ => rfl | ⟨1, _⟩ => rfl
  have hc : shapeCast S1x1 (shapeCast S1x1 b shapeCasts_S1_S1x1) shapeCasts_S1x1_S1x1 (ix2 0 0) = b (ix1 0) := by
    rw [shapeCast_apply _ _ _ (ix2 0 0) rfl]
    exact shapeCast_apply _ _ _ _ (by rw [Shape.rowMajor_val_two, Shape.rowMajor_val_one]; rfl)
  unfold k0_pay1
  show matmul _ none _ h _ (ix2 k n) + broadcastTo S2x10000 _ broadcasts_S1x1_S2x10000 (ix2 k n) = _
  rw [hm, hb]
  show _ + Ideal.ofBits .f32 0x3F000000#32 * shapeCast S1x1 (shapeCast S1x1 b shapeCasts_S1_S1x1) shapeCasts_S1x1_S1x1 (ix2 0 0) = _
  rw [hc]

/-- Entry `160000 * k + e` of the edge list as one row is its entry `(k, e)`. -/
theorem list_apply (k : Fin 2) (e : Fin 160000) :
    shapeCast S320000 ei shapeCasts_S2x160000_S320000 (ix1 ⟨160000 * k.val + e.val, by omega⟩) = ei (ix2 k e) :=
  shapeCast_apply _ _ _ _ (by
    rw [Shape.rowMajor_val_two, Shape.rowMajor_val_one]
    show k.val * 160000 + e.val = 160000 * k.val + e.val
    omega)

/-- An entry that is a node names that node. -/
theorem node_eq {v : BitVec 32} (hv : v.toNat < 10000) : node v = ⟨v.toNat, hv⟩ :=
  Fin.ext (show (clip v).toNat = v.toNat by rw [clip_of_lt hv])

/-- The kernel's scores are the reference's, where every entry of the edge list is a node. -/
theorem outF_eq (hr : ∀ i, (ei i).toNat < 10000) :
    outF (F := Ideal) (k0_pay1 (F := Ideal) (shapeCast S2x256 w shapeCasts_S512x1_S2x256) h (shapeCast S1x1 b shapeCasts_S1_S1x1))
      (shapeCast S320000 ei shapeCasts_S2x160000_S320000) = scores (F := Ideal) h ei w b := by
  have key (e : Fin 160000) : outF (F := Ideal)
      (k0_pay1 (F := Ideal) (shapeCast S2x256 w shapeCasts_S512x1_S2x256) h (shapeCast S1x1 b shapeCasts_S1_S1x1))
      (shapeCast S320000 ei shapeCasts_S2x160000_S320000) (ix1 e) = scores (F := Ideal) h ei w b (ix1 e) := by
    have s0 : shapeCast S320000 ei shapeCasts_S2x160000_S320000 (at1 ⟨e.val, by omega⟩) = ei (ix2 0 e) := by
      rw [at1_eq, ← list_apply ei 0 e]
      exact congrArg (fun k => shapeCast S320000 ei shapeCasts_S2x160000_S320000 (ix1 k)) (Fin.ext (by simp))
    have s1 : shapeCast S320000 ei shapeCasts_S2x160000_S320000 (at1 ⟨160000 + e.val, by omega⟩) = ei (ix2 1 e) := by
      rw [at1_eq, ← list_apply ei 1 e]
      exact congrArg (fun k => shapeCast S320000 ei shapeCasts_S2x160000_S320000 (ix1 k)) (Fin.ext (by simp))
    unfold outF
    rw [edge_eq]
    refine Eq.trans (congrArg logistic ?_) (scores_apply h w b hr e).symm
    have p0 := (congrArg (k0_pay1 (F := Ideal) (shapeCast S2x256 w shapeCasts_S512x1_S2x256) h (shapeCast S1x1 b shapeCasts_S1_S1x1))
      ((at2_eq 0 _).trans (congrArg (ix2 0) ((congrArg node s0).trans (node_eq (hr _)))))).trans (proj_apply h w b 0 _)
    have p1 := (congrArg (k0_pay1 (F := Ideal) (shapeCast S2x256 w shapeCasts_S512x1_S2x256) h (shapeCast S1x1 b shapeCasts_S1_S1x1))
      ((at2_eq 1 _).trans (congrArg (ix2 1) ((congrArg node s1).trans (node_eq (hr _)))))).trans (proj_apply h w b 1 _)
    refine (congrArg₂ (fun x y : EReal => x + y) p0 p1).trans ?_
    show _ + _ + (_ + _) = _
    rw [add_add_add_comm, half_add_half]
    rfl
  funext i
  rw [eq_ix1 i]
  exact key _

end Payload

/-! ## The precondition -/

/-- The precondition says that every entry of the edge list is a node. -/
theorem node_of_pre {m : (ℓ : Loc nD τ sig) → Buf (Elt Ideal) ℓ} (hp : Cert.Pre_KernelIdeal_in_range m) (c : Dev nD) (i : S2x160000.Idx) :
    ((m ((c.tc : Thread nD τ).loc main_arg1) : IVec S2x160000 32) i).toNat < 10000 := by
  have key : ∀ v : BitVec 32, IntOp.andi (IntOp.cmpi .sge v 0#32) (IntOp.cmpi .slt v 10000#32) = 1#1 → v.toNat < 10000 := by
    intro v e
    obtain ⟨e0, e1⟩ := IntOp.andi_eq_one.1 e
    have b0 : (0#32).sle v = true := by by_contra hn; rw [Bool.not_eq_true] at hn; simp [IntOp.cmpi, hn] at e0
    have b1 : v.slt 10000#32 = true := by by_contra hn; rw [Bool.not_eq_true] at hn; simp [IntOp.cmpi, hn] at e1
    simp only [BitVec.sle_eq_decide, BitVec.slt_eq_decide, decide_eq_true_eq, BitVec.toInt_eq_toNat_cond, BitVec.toNat_ofNat, Nat.reducePow, Nat.reduceMod] at b0 b1
    omega
  have e := congrFun (hp c) ValueIdx.ix0
  dsimp only [Pre_in_range.fn] at e
  haveI : Subsingleton (Pre_in_range.S_).Idx := ⟨fun x y => funext fun a => a.elim0⟩
  exact key _ (Host.reduce_andi_all _ _ _ _ _ e i)

/-- The kernel's result is the reference's, from memories that agree on the arguments. -/
theorem res_agree {m : (ℓ : Loc nD τ sig) → Buf (Elt Ideal) ℓ} (hp : Cert.Pre_KernelIdeal_in_range m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v17 m' c = res m c := by
  rw [res_eq, h0, h1, h2, h3]
  exact (outF_eq _ _ _ _ (node_of_pre hp c)).symm

end Cert.Proof.EdgeValue

end
-- ==== Proof.lean ====
/-
  The certificate's claims, assembled. The kernel's run (`run_main`, once for each reading of the program) gives the three frame
  claims about it and, at the ideal values, its result; the reference's run gives its frame claim and its result; `res_agree` says
  that the two results are the same array where every entry of the edge list is a node.
-/
module

public import proofs.«01_k».proof.Defs
public import proofs.«01_k».proof.Proof.Edge.Main
public import proofs.«01_k».proof.Proof.EdgeIdeal.Main
public import proofs.«01_k».proof.Proof.EdgeValue.KerValue

@[expose] public section

noncomputable section

namespace Cert.Proof

open Idealize.ShloMosaic Idealize.SL.Sem

/-- The kernel as printed runs from any memory, leaves its arguments unchanged and every counter at zero. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1⟩, h.2⟩)
    (Edge.run_main (F := Bits) m g)

/-- The same of the kernel at the ideal values. -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (EdgeIdeal.run_main (F := Ideal) m g)

/-- The same of the reference, which has no counter. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- At the ideal values the kernel and the reference end with the same scores. -/
theorem same_scores : Cert.algebraic_KernelIdeal_ReferenceIdeal_pre_in_range := fun m g m' g' hp ha =>
  ⟨fun c => EdgeIdeal.res m c,
    (θ_run Cert.KernelIdeal.defs _ _).mono
      (fun _ h c => ⟨(h.1 c).2.2.2.2, (h.1 c).1, (h.1 c).2.1, (h.1 c).2.2.1, (h.1 c).2.2.2.1⟩) (EdgeIdeal.run_main (F := Ideal) m g),
    (θ_run Cert.ReferenceIdeal.defs _ _).mono
      (fun _ h c => ⟨(h c).1.trans (EdgeValue.res_agree hp m' c (ha c).1 (ha c).2.1 (ha c).2.2.1 (ha c).2.2.2), (h c).2⟩)
      (Cert.ReferenceIdeal.Value.run (F := Ideal) m' g')⟩

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, fun m g _ => frame_ideal m g trivial, frame_reference, fun m g _ => frame_reference m g trivial, trivial, same_scores⟩

end Cert.Proof

end
